-- ==== Defs.lean ====
def Pre_Kernel [hPre_finite_Kernel : Cert.Pre_finite_Kernel.Facts] (m : (ℓ : Loc Cert.Kernel.nD Cert.Kernel.τ Cert.Kernel.sig) → Buf (Elt Bits) ℓ) : Prop :=
  ∀ c : Dev Cert.Kernel.nD,
    (Cert.Pre_finite_Kernel.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_finite_Kernel.fn (F := Bits) (m ((c.tc : Thread Cert.Kernel.nD Cert.Kernel.τ).loc Cert.Kernel.main_arg0)) (m ((c.tc : Thread Cert.Kernel.nD Cert.Kernel.τ).loc Cert.Kernel.main_arg1))).2 = (fun _ => 1#1)

def Pre_KernelIdeal [hPre_finite_Kernel : Cert.Pre_finite_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_finite_Kernel : Cert.Pre_finite_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_Kernel : Cert.Pre_finite_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_Kernel : Cert.Pre_finite_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_Kernel : Cert.Pre_finite_Kernel.Facts) (hPre_finite_ReferenceIdeal : Cert.Pre_finite_ReferenceIdeal.Facts),
    quiescent_Kernel (hKernel := hKernel) (hPre_finite_Kernel := hPre_finite_Kernel)
    ∧ quiescent_KernelIdeal (hKernelIdeal := hKernelIdeal) (hPre_finite_Kernel := hPre_finite_Kernel)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal (hKernelIdeal := hKernelIdeal) (hReferenceIdeal := hReferenceIdeal) (hPre_finite_Kernel := hPre_finite_Kernel)
-- ==== Pre_finite_Kernel.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)

variable [Facts]

def fn {F : FTy → Type} [FloatOps F] (main_arg0 : FVec F S1024x2048 .bf16) (main_arg1 : FVec F S2048x16384 .f32) : IVec S1024x2048 1 × IVec S2048x16384 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  (main_v2, main_v5)
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)

variable [Facts]

def fn {F : FTy → Type} [FloatOps F] (main_arg0 : FVec F S1024x2048 .bf16) (main_arg1 : FVec F S2048x32768 .f32) : IVec S1024x2048 1 × IVec S2048x32768 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  (main_v2, main_v5)
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S4x128x16384 : Shape := ⟨3, ![4, 128, 16384]⟩
abbrev S2x128x16384 : Shape := ⟨3, ![2, 128, 16384]⟩
abbrev S2x2048x512 : Shape := ⟨3, ![2, 2048, 512]⟩
abbrev S2 : Shape := ⟨1, ![2]⟩
abbrev S4 : Shape := ⟨1, ![4]⟩
abbrev S_ : Shape := ⟨0, ![]⟩
abbrev S1 : Shape := ⟨1, ![1]⟩
abbrev S1x128x16384 : Shape := ⟨3, ![1, 128, 16384]⟩
abbrev S128x16384 : Shape := ⟨2, ![128, 16384]⟩
abbrev S128 : Shape := ⟨1, ![128]⟩
abbrev S128x1 : Shape := ⟨2, ![128, 1]⟩
abbrev S128x2048 : Shape := ⟨2, ![128, 2048]⟩
abbrev S1x2048x512 : Shape := ⟨3, ![1, 2048, 512]⟩
abbrev S2048x512 : Shape := ⟨2, ![2048, 512]⟩
abbrev S128x512 : Shape := ⟨2, ![128, 512]⟩
abbrev S1x128x512 : Shape := ⟨3, ![1, 128, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x16384, .f32⟩
  | .hbm, ⟨2, _⟩ => ⟨S1024x32768, .bf16⟩
  | .local _ .vmem, ⟨0, _⟩ => ⟨S1024x2048, .bf16⟩
  | .local _ .vmem, ⟨1, _⟩ => ⟨S4x128x16384, .bf16⟩
  | .local _ .vmem, ⟨2, _⟩ => ⟨S4x128x16384, .bf16⟩
  | .local _ .vmem, ⟨3, _⟩ => ⟨S2x128x16384, .bf16⟩
  | .local _ .vmem, ⟨4, _⟩ => ⟨S2x2048x512, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 2 13 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
@[reducible] def k0_t1_loop : Scf.Loop 32 :=
  let c0_i32_11 : BitVec 32 := 0#32
  let c6_i32 : BitVec 32 := 6#32
  let v20 : BitVec 32 := Scalar.addi c0_i32_11 c6_i32
  let c1_i32_12 : BitVec 32 := 1#32
  ⟨c0_i32_11, v20, c1_i32_12⟩
def k0_cond1 (k0_t1 : Fin k0_t1_loop.trips) : BitVec 1 :=
  let c0_i32_11 : BitVec 32 := 0#32
  let c1_i32_12 : BitVec 32 := 1#32
  let arg12 : BitVec 32 := Scf.iv c0_i32_11 c1_i32_12 k0_t1
  let c2_i32_60 : BitVec 32 := 2#32
  let v55 : BitVec 1 := Scalar.cmpi .sge arg12 c2_i32_60
  let v56 : BitVec 32 := Scalar.extui v55
  let c0_i32_61 : BitVec 32 := 0#32
  let v57 : BitVec 1 := Scalar.cmpi .ne v56 c0_i32_61
  v57

def k0_off1 (k0_t1 : Fin k0_t1_loop.trips) : Fin 1 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  ![v72.toNat]
def k0_off2 (k0_t1 : Fin k0_t1_loop.trips) : Fin 3 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  let c0_i32_77 : BitVec 32 := 0#32
  let c0_i32_78 : BitVec 32 := 0#32
  ![v72.toNat, 0, 0]
def k0_cond2 (k0_t1 : Fin k0_t1_loop.trips) : BitVec 1 :=
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let c1_i32_81 : BitVec 32 := 1#32
  let v86 : BitVec 1 := Scalar.cmpi .sge v61 c1_i32_81
  let v87 : BitVec 32 := Scalar.extui v86
  let c0_i32_82 : BitVec 32 := 0#32
  let v88 : BitVec 1 := Scalar.cmpi .ne v87 c0_i32_82
  v88

def k0_off3 (d0 : Dev nD) (k0_t1 : Fin k0_t1_loop.trips) : Fin 2 → Nat :=
  let c2_i32_188 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v246 : BitVec 32 := Scalar.muli c2_i32_188 v61
  let c1_i32_189 : BitVec 32 := 1#32
  let v247 : BitVec 32 := Scalar.subi v246 c1_i32_189
  let c128_i32_190 : BitVec 32 := 128#32
  let v248 : BitVec 32 := Scalar.muli v247 c128_i32_190
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  ![v248.toNat, v17.toNat]
def k0_off4 (d0 : Dev nD) (k0_t1 : Fin k0_t1_loop.trips) : Fin 2 → Nat :=
  let c2_i32_188 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v246 : BitVec 32 := Scalar.muli c2_i32_188 v61
  let c1_i32_189 : BitVec 32 := 1#32
  let v247 : BitVec 32 := Scalar.subi v246 c1_i32_189
  let c128_i32_190 : BitVec 32 := 128#32
  let v248 : BitVec 32 := Scalar.muli v247 c128_i32_190
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  ![v248.toNat, v19.toNat]
def k0_off5 (k0_t1 : Fin k0_t1_loop.trips) : Fin 3 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  let v89 : Index := Scalar.indexCast v72
  let c0 : Index := 0#32
  let c0_83 : Index := 0#32
  ![v89.toNat, 0, 0]
def k0_dev2 (d0 : Dev nD) : Nat :=
  let c0_i32_113 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_112 : BitVec 32 := 4#32
  let v138 : BitVec 32 := Scalar.muli v9 c4_i32_112
  let v139 : BitVec 32 := Scalar.addi c0_i32_113 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v140 : BitVec 32 := Scalar.muli v5 c2_i32_114
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v142 : BitVec 32 := Scalar.muli v8 c1_i32_115
  let v143 : BitVec 32 := Scalar.addi v141 v142
  v143.toNat
def k0_off6 (d0 : Dev nD) (k0_t1 : Fin k0_t1_loop.trips) : Fin 2 → Nat :=
  let c2_i32_116 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v144 : BitVec 32 := Scalar.muli c2_i32_116 v61
  let c128_i32 : BitVec 32 := 128#32
  let v145 : BitVec 32 := Scalar.muli v144 c128_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  ![v145.toNat, v17.toNat]
def k0_off7 (d0 : Dev nD) (k0_t1 : Fin k0_t1_loop.trips) : Fin 2 → Nat :=
  let c2_i32_116 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v144 : BitVec 32 := Scalar.muli c2_i32_116 v61
  let c128_i32 : BitVec 32 := 128#32
  let v145 : BitVec 32 := Scalar.muli v144 c128_i32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  ![v145.toNat, v19.toNat]
def k0_off8 (k0_t1 : Fin k0_t1_loop.trips) : Fin 1 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  let c1_i32_72 : BitVec 32 := 1#32
  let v73 : BitVec 32 := Scalar.addi v72 c1_i32_72
  ![v73.toNat]
def k0_off9 (k0_t1 : Fin k0_t1_loop.trips) : Fin 3 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  let c1_i32_72 : BitVec 32 := 1#32
  let v73 : BitVec 32 := Scalar.addi v72 c1_i32_72
  let c0_i32_129 : BitVec 32 := 0#32
  let c0_i32_130 : BitVec 32 := 0#32
  ![v73.toNat, 0, 0]
def k0_off10 (k0_t1 : Fin k0_t1_loop.trips) : Fin 3 → Nat :=
  let c2_i32_65 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v62 : BitVec 32 := Scalar.muli c2_i32_65 v61
  let c4_i32_66 : BitVec 32 := 4#32
  let c0_i32_67 : BitVec 32 := 0#32
  let v63 : BitVec 1 := Scalar.cmpi .eq c4_i32_66 c0_i32_67
  let c1_i32_68 : BitVec 32 := 1#32
  let v64 : BitVec 32 := Scalar.select v63 c1_i32_68 c4_i32_66
  let v65 : BitVec 32 := Scalar.remsi v62 v64
  let c0_i32_70 : BitVec 32 := 0#32
  let v67 : BitVec 1 := Scalar.cmpi .slt v65 c0_i32_70
  let c0_i32_71 : BitVec 32 := 0#32
  let v68 : BitVec 1 := Scalar.cmpi .slt v64 c0_i32_71
  let v69 : BitVec 1 := Scalar.xori v67 v68
  let c0_i32_69 : BitVec 32 := 0#32
  let v66 : BitVec 1 := Scalar.cmpi .ne v65 c0_i32_69
  let v70 : BitVec 1 := Scalar.andi v69 v66
  let v71 : BitVec 32 := Scalar.addi v65 v64
  let v72 : BitVec 32 := Scalar.select v70 v71 v65
  let c1_i32_72 : BitVec 32 := 1#32
  let v73 : BitVec 32 := Scalar.addi v72 c1_i32_72
  let v178 : Index := Scalar.indexCast v73
  let c0_141 : Index := 0#32
  let c0_142 : Index := 0#32
  ![v178.toNat, 0, 0]
def k0_dev3 (d0 : Dev nD) : Nat :=
  let c0_i32_174 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_173 : BitVec 32 := 4#32
  let v227 : BitVec 32 := Scalar.muli v9 c4_i32_173
  let v228 : BitVec 32 := Scalar.addi c0_i32_174 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v229 : BitVec 32 := Scalar.muli v5 c2_i32_175
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v231 : BitVec 32 := Scalar.muli v8 c1_i32_176
  let v232 : BitVec 32 := Scalar.addi v230 v231
  v232.toNat
def k0_off11 (d0 : Dev nD) (k0_t1 : Fin k0_t1_loop.trips) : Fin 2 → Nat :=
  let c2_i32_177 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v233 : BitVec 32 := Scalar.muli c2_i32_177 v61
  let c1_i32_178 : BitVec 32 := 1#32
  let v234 : BitVec 32 := Scalar.addi v233 c1_i32_178
  let c128_i32_179 : BitVec 32 := 128#32
  let v235 : BitVec 32 := Scalar.muli v234 c128_i32_179
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  ![v235.toNat, v17.toNat]
def k0_off12 (d0 : Dev nD) (k0_t1 : Fin k0_t1_loop.trips) : Fin 2 → Nat :=
  let c2_i32_177 : BitVec 32 := 2#32
  let c0_i32_11 : BitVec 32 := 0#32
  let c1_i32_12 : BitVec 32 := 1#32
  let arg12 : BitVec 32 := Scf.iv c0_i32_11 c1_i32_12 k0_t1
  let c2_i32_64 : BitVec 32 := 2#32
  let v61 : BitVec 32 := Scalar.subi arg12 c2_i32_64
  let v233 : BitVec 32 := Scalar.muli c2_i32_177 v61
  let c1_i32_178 : BitVec 32 := 1#32
  let v234 : BitVec 32 := Scalar.addi v233 c1_i32_178
  let c128_i32_179 : BitVec 32 := 128#32
  let v235 : BitVec 32 := Scalar.muli v234 c128_i32_179
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  ![v235.toNat, v19.toNat]
def k0_cond3 (k0_t1 : Fin k0_t1_loop.trips) : BitVec 1 :=
  let c0_i32_11 : BitVec 32 := 0#32
  let c1_i32_12 : BitVec 32 := 1#32
  let arg12 : BitVec 32 := Scf.iv c0_i32_11 c1_i32_12 k0_t1
  let c4_i32_62 : BitVec 32 := 4#32
  let v58 : BitVec 1 := Scalar.cmpi .slt arg12 c4_i32_62
  let v59 : BitVec 32 := Scalar.extui v58
  let c0_i32_63 : BitVec 32 := 0#32
  let v60 : BitVec 1 := Scalar.cmpi .ne v59 c0_i32_63
  v60

def k0_cond4 (k0_t1 : Fin k0_t1_loop.trips) : BitVec 1 :=
  let c0_i32_11 : BitVec 32 := 0#32
  let c1_i32_12 : BitVec 32 := 1#32
  let arg12 : BitVec 32 := Scf.iv c0_i32_11 c1_i32_12 k0_t1
  let c2_i32_72 : BitVec 32 := 2#32
  let v73 : BitVec 1 := Scalar.cmpi .sge arg12 c2_i32_72
  let v74 : BitVec 32 := Scalar.extui v73
  let c0_i32_73 : BitVec 32 := 0#32
  let v75 : BitVec 1 := Scalar.cmpi .ne v74 c0_i32_73
  v75

def k0_off13 (k0_t1 : Fin k0_t1_loop.trips) : Fin 1 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  ![v71.toNat]
def k0_off14 (k0_t1 : Fin k0_t1_loop.trips) : Fin 3 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c0_i32_810 : BitVec 32 := 0#32
  let c0_i32_811 : BitVec 32 := 0#32
  ![v71.toNat, 0, 0]
def k0_off15 (k0_t1 : Fin k0_t1_loop.trips) : Fin 1 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c1_i32_71 : BitVec 32 := 1#32
  let v72 : BitVec 32 := Scalar.addi v71 c1_i32_71
  ![v72.toNat]
def k0_off16 (k0_t1 : Fin k0_t1_loop.trips) : Fin 3 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c1_i32_71 : BitVec 32 := 1#32
  let v72 : BitVec 32 := Scalar.addi v71 c1_i32_71
  let c0_i32_815 : BitVec 32 := 0#32
  let c0_i32_816 : BitVec 32 := 0#32
  ![v72.toNat, 0, 0]
def k0_off17 (k0_t1 : Fin k0_t1_loop.trips) : Fin 2 → Nat :=
  let c2_i32_82 : BitVec 32 := 2#32
  let c0_i32_11 : BitVec 32 := 0#32
  let c1_i32_12 : BitVec 32 := 1#32
  let arg12 : BitVec 32 := Scf.iv c0_i32_11 c1_i32_12 k0_t1
  let v88 : BitVec 32 := Scalar.muli c2_i32_82 arg12
  let c128_i32 : BitVec 32 := 128#32
  let v89 : BitVec 32 := Scalar.muli v88 c128_i32
  let v90 : Index := Scalar.indexCast v89
  let c0 : Index := 0#32
  ![v90.toNat, 0]
def k0_off18 (k0_t1 : Fin k0_t1_loop.trips) : Fin 2 → Nat :=
  let c2_i32_83 : BitVec 32 := 2#32
  let c0_i32_11 : BitVec 32 := 0#32
  let c1_i32_12 : BitVec 32 := 1#32
  let arg12 : BitVec 32 := Scf.iv c0_i32_11 c1_i32_12 k0_t1
  let v93 : BitVec 32 := Scalar.muli c2_i32_83 arg12
  let c1_i32_84 : BitVec 32 := 1#32
  let v94 : BitVec 32 := Scalar.addi v93 c1_i32_84
  let c128_i32_85 : BitVec 32 := 128#32
  let v95 : BitVec 32 := Scalar.muli v94 c128_i32_85
  let v96 : Index := Scalar.indexCast v95
  let c0_86 : Index := 0#32
  ![v96.toNat, 0]
def k0_off19 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v120 : Index := Scalar.indexCast v86
  let c0_107 : Index := 0#32
  let c0_108 : Index := 0#32
  ![v120.toNat, 0, 0]
def k0_off20 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v128 : Index := Scalar.indexCast v87
  let c0_113 : Index := 0#32
  let c0_114 : Index := 0#32
  ![v128.toNat, 0, 0]
def k0_off21 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v146 : Index := Scalar.indexCast v86
  let c0_129 : Index := 0#32
  let c512 : Index := 512#32
  ![v146.toNat, 0, 512]
def k0_off22 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v154 : Index := Scalar.indexCast v87
  let c0_134 : Index := 0#32
  let c512_135 : Index := 512#32
  ![v154.toNat, 0, 512]
def k0_off23 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v172 : Index := Scalar.indexCast v86
  let c0_151 : Index := 0#32
  let c1024 : Index := 1024#32
  ![v172.toNat, 0, 1024]
def k0_off24 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v180 : Index := Scalar.indexCast v87
  let c0_156 : Index := 0#32
  let c1024_157 : Index := 1024#32
  ![v180.toNat, 0, 1024]
def k0_off25 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v198 : Index := Scalar.indexCast v86
  let c0_173 : Index := 0#32
  let c1536 : Index := 1536#32
  ![v198.toNat, 0, 1536]
def k0_off26 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v206 : Index := Scalar.indexCast v87
  let c0_178 : Index := 0#32
  let c1536_179 : Index := 1536#32
  ![v206.toNat, 0, 1536]
def k0_off27 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v224 : Index := Scalar.indexCast v86
  let c0_195 : Index := 0#32
  let c2048 : Index := 2048#32
  ![v224.toNat, 0, 2048]
def k0_off28 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v232 : Index := Scalar.indexCast v87
  let c0_200 : Index := 0#32
  let c2048_201 : Index := 2048#32
  ![v232.toNat, 0, 2048]
def k0_off29 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v250 : Index := Scalar.indexCast v86
  let c0_217 : Index := 0#32
  let c2560 : Index := 2560#32
  ![v250.toNat, 0, 2560]
def k0_off30 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v258 : Index := Scalar.indexCast v87
  let c0_222 : Index := 0#32
  let c2560_223 : Index := 2560#32
  ![v258.toNat, 0, 2560]
def k0_off31 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v276 : Index := Scalar.indexCast v86
  let c0_239 : Index := 0#32
  let c3072 : Index := 3072#32
  ![v276.toNat, 0, 3072]
def k0_off32 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v284 : Index := Scalar.indexCast v87
  let c0_244 : Index := 0#32
  let c3072_245 : Index := 3072#32
  ![v284.toNat, 0, 3072]
def k0_off33 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v302 : Index := Scalar.indexCast v86
  let c0_261 : Index := 0#32
  let c3584 : Index := 3584#32
  ![v302.toNat, 0, 3584]
def k0_off34 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v310 : Index := Scalar.indexCast v87
  let c0_266 : Index := 0#32
  let c3584_267 : Index := 3584#32
  ![v310.toNat, 0, 3584]
def k0_off35 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v328 : Index := Scalar.indexCast v86
  let c0_283 : Index := 0#32
  let c4096 : Index := 4096#32
  ![v328.toNat, 0, 4096]
def k0_off36 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v336 : Index := Scalar.indexCast v87
  let c0_288 : Index := 0#32
  let c4096_289 : Index := 4096#32
  ![v336.toNat, 0, 4096]
def k0_off37 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v354 : Index := Scalar.indexCast v86
  let c0_305 : Index := 0#32
  let c4608 : Index := 4608#32
  ![v354.toNat, 0, 4608]
def k0_off38 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v362 : Index := Scalar.indexCast v87
  let c0_310 : Index := 0#32
  let c4608_311 : Index := 4608#32
  ![v362.toNat, 0, 4608]
def k0_off39 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v380 : Index := Scalar.indexCast v86
  let c0_327 : Index := 0#32
  let c5120 : Index := 5120#32
  ![v380.toNat, 0, 5120]
def k0_off40 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v388 : Index := Scalar.indexCast v87
  let c0_332 : Index := 0#32
  let c5120_333 : Index := 5120#32
  ![v388.toNat, 0, 5120]
def k0_off41 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v406 : Index := Scalar.indexCast v86
  let c0_349 : Index := 0#32
  let c5632 : Index := 5632#32
  ![v406.toNat, 0, 5632]
def k0_off42 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v414 : Index := Scalar.indexCast v87
  let c0_354 : Index := 0#32
  let c5632_355 : Index := 5632#32
  ![v414.toNat, 0, 5632]
def k0_off43 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v432 : Index := Scalar.indexCast v86
  let c0_371 : Index := 0#32
  let c6144 : Index := 6144#32
  ![v432.toNat, 0, 6144]
def k0_off44 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v440 : Index := Scalar.indexCast v87
  let c0_376 : Index := 0#32
  let c6144_377 : Index := 6144#32
  ![v440.toNat, 0, 6144]
def k0_off45 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v458 : Index := Scalar.indexCast v86
  let c0_393 : Index := 0#32
  let c6656 : Index := 6656#32
  ![v458.toNat, 0, 6656]
def k0_off46 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v466 : Index := Scalar.indexCast v87
  let c0_398 : Index := 0#32
  let c6656_399 : Index := 6656#32
  ![v466.toNat, 0, 6656]
def k0_off47 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v484 : Index := Scalar.indexCast v86
  let c0_415 : Index := 0#32
  let c7168 : Index := 7168#32
  ![v484.toNat, 0, 7168]
def k0_off48 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v492 : Index := Scalar.indexCast v87
  let c0_420 : Index := 0#32
  let c7168_421 : Index := 7168#32
  ![v492.toNat, 0, 7168]
def k0_off49 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v510 : Index := Scalar.indexCast v86
  let c0_437 : Index := 0#32
  let c7680 : Index := 7680#32
  ![v510.toNat, 0, 7680]
def k0_off50 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v518 : Index := Scalar.indexCast v87
  let c0_442 : Index := 0#32
  let c7680_443 : Index := 7680#32
  ![v518.toNat, 0, 7680]
def k0_off51 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v536 : Index := Scalar.indexCast v86
  let c0_459 : Index := 0#32
  let c8192 : Index := 8192#32
  ![v536.toNat, 0, 8192]
def k0_off52 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v544 : Index := Scalar.indexCast v87
  let c0_464 : Index := 0#32
  let c8192_465 : Index := 8192#32
  ![v544.toNat, 0, 8192]
def k0_off53 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v562 : Index := Scalar.indexCast v86
  let c0_481 : Index := 0#32
  let c8704 : Index := 8704#32
  ![v562.toNat, 0, 8704]
def k0_off54 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v570 : Index := Scalar.indexCast v87
  let c0_486 : Index := 0#32
  let c8704_487 : Index := 8704#32
  ![v570.toNat, 0, 8704]
def k0_off55 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v588 : Index := Scalar.indexCast v86
  let c0_503 : Index := 0#32
  let c9216 : Index := 9216#32
  ![v588.toNat, 0, 9216]
def k0_off56 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v596 : Index := Scalar.indexCast v87
  let c0_508 : Index := 0#32
  let c9216_509 : Index := 9216#32
  ![v596.toNat, 0, 9216]
def k0_off57 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v614 : Index := Scalar.indexCast v86
  let c0_525 : Index := 0#32
  let c9728 : Index := 9728#32
  ![v614.toNat, 0, 9728]
def k0_off58 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v622 : Index := Scalar.indexCast v87
  let c0_530 : Index := 0#32
  let c9728_531 : Index := 9728#32
  ![v622.toNat, 0, 9728]
def k0_off59 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v640 : Index := Scalar.indexCast v86
  let c0_547 : Index := 0#32
  let c10240 : Index := 10240#32
  ![v640.toNat, 0, 10240]
def k0_off60 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v648 : Index := Scalar.indexCast v87
  let c0_552 : Index := 0#32
  let c10240_553 : Index := 10240#32
  ![v648.toNat, 0, 10240]
def k0_off61 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v666 : Index := Scalar.indexCast v86
  let c0_569 : Index := 0#32
  let c10752 : Index := 10752#32
  ![v666.toNat, 0, 10752]
def k0_off62 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v674 : Index := Scalar.indexCast v87
  let c0_574 : Index := 0#32
  let c10752_575 : Index := 10752#32
  ![v674.toNat, 0, 10752]
def k0_off63 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v692 : Index := Scalar.indexCast v86
  let c0_591 : Index := 0#32
  let c11264 : Index := 11264#32
  ![v692.toNat, 0, 11264]
def k0_off64 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v700 : Index := Scalar.indexCast v87
  let c0_596 : Index := 0#32
  let c11264_597 : Index := 11264#32
  ![v700.toNat, 0, 11264]
def k0_off65 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v718 : Index := Scalar.indexCast v86
  let c0_613 : Index := 0#32
  let c11776 : Index := 11776#32
  ![v718.toNat, 0, 11776]
def k0_off66 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v726 : Index := Scalar.indexCast v87
  let c0_618 : Index := 0#32
  let c11776_619 : Index := 11776#32
  ![v726.toNat, 0, 11776]
def k0_off67 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v744 : Index := Scalar.indexCast v86
  let c0_635 : Index := 0#32
  let c12288 : Index := 12288#32
  ![v744.toNat, 0, 12288]
def k0_off68 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v752 : Index := Scalar.indexCast v87
  let c0_640 : Index := 0#32
  let c12288_641 : Index := 12288#32
  ![v752.toNat, 0, 12288]
def k0_off69 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v770 : Index := Scalar.indexCast v86
  let c0_657 : Index := 0#32
  let c12800 : Index := 12800#32
  ![v770.toNat, 0, 12800]
def k0_off70 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v778 : Index := Scalar.indexCast v87
  let c0_662 : Index := 0#32
  let c12800_663 : Index := 12800#32
  ![v778.toNat, 0, 12800]
def k0_off71 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v796 : Index := Scalar.indexCast v86
  let c0_679 : Index := 0#32
  let c13312 : Index := 13312#32
  ![v796.toNat, 0, 13312]
def k0_off72 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v804 : Index := Scalar.indexCast v87
  let c0_684 : Index := 0#32
  let c13312_685 : Index := 13312#32
  ![v804.toNat, 0, 13312]
def k0_off73 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v822 : Index := Scalar.indexCast v86
  let c0_701 : Index := 0#32
  let c13824 : Index := 13824#32
  ![v822.toNat, 0, 13824]
def k0_off74 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v830 : Index := Scalar.indexCast v87
  let c0_706 : Index := 0#32
  let c13824_707 : Index := 13824#32
  ![v830.toNat, 0, 13824]
def k0_off75 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v848 : Index := Scalar.indexCast v86
  let c0_723 : Index := 0#32
  let c14336 : Index := 14336#32
  ![v848.toNat, 0, 14336]
def k0_off76 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v856 : Index := Scalar.indexCast v87
  let c0_728 : Index := 0#32
  let c14336_729 : Index := 14336#32
  ![v856.toNat, 0, 14336]
def k0_off77 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v874 : Index := Scalar.indexCast v86
  let c0_745 : Index := 0#32
  let c14848 : Index := 14848#32
  ![v874.toNat, 0, 14848]
def k0_off78 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v882 : Index := Scalar.indexCast v87
  let c0_750 : Index := 0#32
  let c14848_751 : Index := 14848#32
  ![v882.toNat, 0, 14848]
def k0_off79 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v900 : Index := Scalar.indexCast v86
  let c0_767 : Index := 0#32
  let c15360 : Index := 15360#32
  ![v900.toNat, 0, 15360]
def k0_off80 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v908 : Index := Scalar.indexCast v87
  let c0_772 : Index := 0#32
  let c15360_773 : Index := 15360#32
  ![v908.toNat, 0, 15360]
def k0_off81 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let v921 : Index := Scalar.indexCast v86
  let c0_784 : Index := 0#32
  let c15872 : Index := 15872#32
  ![v921.toNat, 0, 15872]
def k0_off82 (k0_t1 : Fin k0_t1_loop.trips) : Fin 3 → Nat :=
  let c2_i32_74 : BitVec 32 := 2#32
  let c0_i32_11 : BitVec 32 := 0#32
  let c1_i32_12 : BitVec 32 := 1#32
  let arg12 : BitVec 32 := Scf.iv c0_i32_11 c1_i32_12 k0_t1
  let v76 : BitVec 32 := Scalar.muli c2_i32_74 arg12
  let c4_i32_75 : BitVec 32 := 4#32
  let c0_i32_76 : BitVec 32 := 0#32
  let v77 : BitVec 1 := Scalar.cmpi .eq c4_i32_75 c0_i32_76
  let c1_i32_77 : BitVec 32 := 1#32
  let v78 : BitVec 32 := Scalar.select v77 c1_i32_77 c4_i32_75
  let v79 : BitVec 32 := Scalar.remsi v76 v78
  let c0_i32_79 : BitVec 32 := 0#32
  let v81 : BitVec 1 := Scalar.cmpi .slt v79 c0_i32_79
  let c0_i32_80 : BitVec 32 := 0#32
  let v82 : BitVec 1 := Scalar.cmpi .slt v78 c0_i32_80
  let v83 : BitVec 1 := Scalar.xori v81 v82
  let c0_i32_78 : BitVec 32 := 0#32
  let v80 : BitVec 1 := Scalar.cmpi .ne v79 c0_i32_78
  let v84 : BitVec 1 := Scalar.andi v83 v80
  let v85 : BitVec 32 := Scalar.addi v79 v78
  let v86 : BitVec 32 := Scalar.select v84 v85 v79
  let c1_i32_81 : BitVec 32 := 1#32
  let v87 : BitVec 32 := Scalar.addi v86 c1_i32_81
  let v929 : Index := Scalar.indexCast v87
  let c0_789 : Index := 0#32
  let c15872_790 : Index := 15872#32
  ![v929.toNat, 0, 15872]
def k0_off83 (k0_t1 : Fin k0_t1_loop.trips) : Fin 1 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  ![v71.toNat]
def k0_off84 (k0_t1 : Fin k0_t1_loop.trips) : Fin 3 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c0_i32_797 : BitVec 32 := 0#32
  let c0_i32_798 : BitVec 32 := 0#32
  ![v71.toNat, 0, 0]
def k0_dev4 (d0 : Dev nD) : Nat :=
  let c0_i32_794 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_793 : BitVec 32 := 4#32
  let v936 : BitVec 32 := Scalar.muli v9 c4_i32_793
  let v937 : BitVec 32 := Scalar.addi c0_i32_794 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_795 : BitVec 32 := 2#32
  let v938 : BitVec 32 := Scalar.muli v5 c2_i32_795
  let v939 : BitVec 32 := Scalar.addi v937 v938
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_796 : BitVec 32 := 1#32
  let v940 : BitVec 32 := Scalar.muli v8 c1_i32_796
  let v941 : BitVec 32 := Scalar.addi v939 v940
  v941.toNat
def k0_off85 (k0_t1 : Fin k0_t1_loop.trips) : Fin 1 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c1_i32_71 : BitVec 32 := 1#32
  let v72 : BitVec 32 := Scalar.addi v71 c1_i32_71
  ![v72.toNat]
def k0_off86 (k0_t1 : Fin k0_t1_loop.trips) : Fin 3 → Nat :=
  let c2_i32_64 : BitVec 32 := 2#32
  let c0_i32_11 : BitVec 32 := 0#32
  let c1_i32_12 : BitVec 32 := 1#32
  let arg12 : BitVec 32 := Scf.iv c0_i32_11 c1_i32_12 k0_t1
  let v61 : BitVec 32 := Scalar.muli c2_i32_64 arg12
  let c4_i32_65 : BitVec 32 := 4#32
  let c0_i32_66 : BitVec 32 := 0#32
  let v62 : BitVec 1 := Scalar.cmpi .eq c4_i32_65 c0_i32_66
  let c1_i32_67 : BitVec 32 := 1#32
  let v63 : BitVec 32 := Scalar.select v62 c1_i32_67 c4_i32_65
  let v64 : BitVec 32 := Scalar.remsi v61 v63
  let c0_i32_69 : BitVec 32 := 0#32
  let v66 : BitVec 1 := Scalar.cmpi .slt v64 c0_i32_69
  let c0_i32_70 : BitVec 32 := 0#32
  let v67 : BitVec 1 := Scalar.cmpi .slt v63 c0_i32_70
  let v68 : BitVec 1 := Scalar.xori v66 v67
  let c0_i32_68 : BitVec 32 := 0#32
  let v65 : BitVec 1 := Scalar.cmpi .ne v64 c0_i32_68
  let v69 : BitVec 1 := Scalar.andi v68 v65
  let v70 : BitVec 32 := Scalar.addi v64 v63
  let v71 : BitVec 32 := Scalar.select v69 v70 v64
  let c1_i32_71 : BitVec 32 := 1#32
  let v72 : BitVec 32 := Scalar.addi v71 c1_i32_71
  let c0_i32_805 : BitVec 32 := 0#32
  let c0_i32_806 : BitVec 32 := 0#32
  ![v72.toNat, 0, 0]
def k0_dev5 (d0 : Dev nD) : Nat :=
  let c0_i32_802 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_801 : BitVec 32 := 4#32
  let v950 : BitVec 32 := Scalar.muli v9 c4_i32_801
  let v951 : BitVec 32 := Scalar.addi c0_i32_802 v950
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_803 : BitVec 32 := 2#32
  let v952 : BitVec 32 := Scalar.muli v5 c2_i32_803
  let v953 : BitVec 32 := Scalar.addi v951 v952
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_804 : BitVec 32 := 1#32
  let v954 : BitVec 32 := Scalar.muli v8 c1_i32_804
  let v955 : BitVec 32 := Scalar.addi v953 v954
  v955.toNat
def k0_off87 (d0 : Dev nD) : Fin 2 → Nat :=
  let c896_i32 : BitVec 32 := 896#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  ![896, v17.toNat]
def k0_off88 (d0 : Dev nD) : Fin 2 → Nat :=
  let c896_i32_20 : BitVec 32 := 896#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  ![896, v19.toNat]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x32768, .f32⟩
  | .hbm, ⟨2, _⟩ => ⟨S1024x2048, .f32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x32768, .f32⟩
  | .hbm, ⟨14, _⟩ => ⟨S1024x32768, .f32⟩
  | .hbm, ⟨15, _⟩ => ⟨S1024x32768, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Values.lean ====
/-
What the kernel's buffers hold: the logits of a row block, their exponentials, and the row block of the result.
-/
module

public import proofs.«01_k».proof.Proof.Gen.KernelIdeal
public import proofs.«01_k».proof.Proof.Gen.KernelIdeal.Skeleton
public import Idealize.ShloMosaic.Lib.ValueIdxCore

@[expose] public section

noncomputable section

namespace Cert.SoftmaxProof

open Cert.KernelIdeal Cert.KernelIdeal.Gen
open Idealize.ShloMosaic
open Idealize.ShloMosaic.ValueIdx

variable {F : FTy → Type} [FloatOps F]

/-- The device across the first mesh axis: the one this device exchanges logits with. -/
def peer (c : Dev nD) : Dev nD := ⟨(c.val + 4) % 8, Nat.mod_lt _ (by decide)⟩

theorem peer_peer (c : Dev nD) : peer (peer c) = c := by revert c; decide

/-- Which half of the columns of the result the block `b` of a row block's output goes to: `0` is this device's own. -/
def half (c : Dev nD) (b : ℕ) : ℕ := if b = 0 then c.val / 4 else 1 - c.val / 4

/-- Row block `k` of the activations. -/
def xChunk (x : Vec F S1024x2048 .bf16) (k : ℕ) : Vec F S128x2048 .bf16 := fun i =>
  x (ix2 (⟨(128 * k + (i 0).val) % 1024, Nat.mod_lt _ (by decide)⟩ : Fin 1024) (i 1))

/-- Column block `p` of a device's weights, as the staging buffer's slot holds it. -/
def wBlk (w : Vec F S2048x16384 .f32) (p : ℕ) : Vec F S1x2048x512 .f32 := fun i =>
  w (ix2 (i 1) (⟨(512 * p + (i 2).val) % 16384, Nat.mod_lt _ (by decide)⟩ : Fin 16384))

/-- One block of logits: a row block of activations times a column block of weights, rounded to the stored format. -/
def colPay (a : FVec F S128x2048 .f32) (v : Vec F S1x2048x512 .f32) : FVec F S1x128x512 .bf16 := k0_pay16 a v

/-- The logits of row block `k` against a device's weights. -/
def lg (x : Vec F S1024x2048 .bf16) (w : Vec F S2048x16384 .f32) (k : ℕ) : Vec F S1x128x16384 .bf16 := fun i =>
  colPay (k0_pay14 (xChunk x k)) (wBlk w ((i 2).val / 512))
    (ix3 (0 : Fin 1) (i 1) (⟨(i 2).val % 512, Nat.mod_lt _ (by decide)⟩ : Fin 512))

/-- The output block of a row block: the exponentials `e` of one half of the logits times the reciprocal of the sum over both halves. -/
def outOwn (a b : Vec F S1x128x16384 .bf16) : Vec F S1x128x16384 .bf16 := k0_pay5 (k0_pay3 a) (k0_pay3 b) (k0_pay3 a)
def outPeer (a b : Vec F S1x128x16384 .bf16) : Vec F S1x128x16384 .bf16 := k0_pay6 (k0_pay4 (k0_pay3 a) (k0_pay3 b)) (k0_pay3 b)

/-- Block `b` (`0` own, `1` the peer's) of row block `k`'s output. -/
def outBlk (x : Vec F S1024x2048 .bf16) (w w' : Vec F S2048x16384 .f32) (x' : Vec F S1024x2048 .bf16) (k b : ℕ) : Vec F S1x128x16384 .bf16 :=
  if b = 0 then outOwn (lg x w k) (lg x' w' k) else outPeer (lg x w k) (lg x' w' k)

/-- The whole result of a device. -/
def outBuf (c : Dev nD) (x : Vec F S1024x2048 .bf16) (w w' : Vec F S2048x16384 .f32) (x' : Vec F S1024x2048 .bf16) : Vec F S1024x32768 .bf16 := fun i =>
  outBlk x w w' x' ((i 0).val / 128) (if (i 1).val / 16384 = c.val / 4 then 0 else 1)
    (ix3 (0 : Fin 1) (⟨(i 0).val % 128, Nat.mod_lt _ (by decide)⟩ : Fin 128) (⟨(i 1).val % 16384, Nat.mod_lt _ (by decide)⟩ : Fin 16384))

end Cert.SoftmaxProof
-- ==== Proof.Proto.lean ====
/-
The protocol of the exchange: cells, levels, what is owed, and what each signal and landing carries.

Chunk `k < 8` of a device's logits travels through slot `k % 4` of its send buffer into the same slot of the peer's
receive buffer, at round `k / 4` of the slot's two cells. The barrier signal hands the signaller's four receive slots to
the peer; each credit signal says that the receive slots up to its own number are free for a second chunk.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

/-! ## The resource algebra: the pipeline's, the rounds', the slots' and the local transfers' counters -/

abbrev UB : Type := URounds (GSem nD τ sig) ℕ
abbrev US : Type := USlots (Dev nD × ℕ)
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev EQ : Emb (UB × (US × Counters)) (MT nD τ sig ℕ (Elt F) ℕ UU ℕ) := embR
abbrev ER : Emb UB (MT nD τ sig ℕ (Elt F) ℕ UU ℕ) := (Emb.inl : Emb UB (UB × (US × Counters))).trans EQ
abbrev EQ' : Emb (US × Counters) (MT nD τ sig ℕ (Elt F) ℕ UU ℕ) := (Emb.inr : Emb (US × Counters) (UB × (US × Counters))).trans EQ
abbrev ES : Emb US (MT nD τ sig ℕ (Elt F) ℕ UU ℕ) := (Emb.inl : Emb US (US × Counters)).trans EQ'
abbrev EC : UEmb Counters (MT nD τ sig ℕ (Elt F) ℕ UU ℕ) := countersEmb

instance : (ER : Emb UB 𝕄).LandsIn (upEmb : UEmb _ 𝕄) := by unfold ER EQ embR; infer_instance
instance : (ES : Emb US 𝕄).LandsIn (upEmb : UEmb _ 𝕄) := by unfold ES EQ' EQ embR; infer_instance

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Semaphores and cells, by chunk -/

abbrev sendSem (k : ℕ) : DmaSem sig := (⟨5 + k % 4, by omega⟩ : Fin 13)
abbrev recvSem (k : ℕ) : DmaSem sig := (⟨9 + k % 4, by omega⟩ : Fin 13)
abbrev wSem (b : ℕ) : DmaSem sig := (⟨1 + b % 2, by omega⟩ : Fin 13)
abbrev oSem (b : ℕ) : DmaSem sig := (⟨3 + b % 2, by omega⟩ : Fin 13)
abbrev creditSem : Sem sig := (0 : Fin 2)
abbrev barSem : Sem sig := (1 : Fin 2)

abbrev sendCell (c : Dev nD) (k : ℕ) : GSem nD τ sig := ((c : Thread nD τ), .dma (sendSem k))
abbrev recvCell (c : Dev nD) (k : ℕ) : GSem nD τ sig := ((c : Thread nD τ), .dma (recvSem k))
abbrev creditCell (c : Dev nD) : GSem nD τ sig := ((c : Thread nD τ), .reg creditSem)
abbrev barCell (c : Dev nD) : GSem nD τ sig := ((c : Thread nD τ), .reg barSem)
abbrev key (c : Dev nD) (k : ℕ) : Dev nD × ℕ := (c, k % 4)

/-- One slot of the receive buffer as the transfers name it. -/
abbrev slotM (b : Ref sig .tc) (M : Memref sig .tc .vmem S4x128x16384 .bf16) : Memref sig .tc .vmem S128x16384 .bf16 :=
  (M.slice (Rect.unit (s := S4x128x16384) ![0, 0, 0] S1x128x16384.size (by decide)) (fun _ => rfl)).squeeze S128x16384 squeezes_S1x128x16384_S128x16384

/-- The credit of one slot's transfer. -/
def N : ℕ := sig.dmaCredit .tc (Kind.tc.table .vmem) (Memref.whole cc0_scratch1 : Memref sig .tc .vmem S4x128x16384 .bf16).view.buf S128x16384 .bf16
theorem N_pos : 0 < N := sig.dmaCredit_pos _ _ _ _ _ (by decide)

/-! ## Slots and contents -/

/-- The elements of slot `k % 4` of the send or receive buffer. -/
def slotSet (k : ℕ) : Finset S4x128x16384.Idx := Finset.univ.filter fun i => (i 0).val = k % 4

theorem mem_slotSet {k : ℕ} {i : S4x128x16384.Idx} : i ∈ slotSet k ↔ (i 0).val = k % 4 := by simp [slotSet]

theorem slotSet_nonempty (k : ℕ) : (slotSet k).Nonempty :=
  ⟨ix3 (⟨k % 4, Nat.mod_lt _ (by decide)⟩ : Fin 4) (0 : Fin 128) (0 : Fin 16384), mem_slotSet.2 rfl⟩

abbrev xOf (c : Dev nD) : Vec F S1024x2048 .bf16 := m ((c : Thread nD τ).loc main_arg0)
abbrev wOf (c : Dev nD) : Vec F S2048x16384 .f32 := m ((c : Thread nD τ).loc main_arg1)

/-- The logits of device `c`'s row block `k`, as any slot of a four-slot buffer holds them. -/
def lgBuf (c : Dev nD) (k : ℕ) : Vec F S4x128x16384 .bf16 := fun i => lg (xOf m c) (wOf m c) k (ix3 (0 : Fin 1) (i 1) (i 2))

def sendPts (c : Dev nD) (k : ℕ) (q : PosShare TreeShare) (f : Vec F S4x128x16384 .bf16) : sProp 𝕄 :=
  ((c : Thread nD τ).loc cc0_scratch0) ↦[slotSet k]{q} f
def recvPts (c : Dev nD) (k : ℕ) (f : Vec F S4x128x16384 .bf16) : sProp 𝕄 :=
  ((c : Thread nD τ).loc cc0_scratch1) ↦[slotSet k]{fullShare} f

instance sendPts_storable (c : Dev nD) (k q f) : BI.Storable (upEmb : UEmb _ 𝕄) (sendPts (F := F) c k q f) := by unfold sendPts; infer_instance
instance recvPts_storable (c : Dev nD) (k f) : BI.Storable (upEmb : UEmb _ 𝕄) (recvPts (F := F) c k f) := by unfold recvPts; infer_instance

/-- A receive slot at any contents. -/
def recvAny (c : Dev nD) (k : ℕ) : sProp 𝕄 := slot ((c : Thread nD τ).loc cc0_scratch1) (slotSet k)
instance recvAny_storable (c : Dev nD) (k) : BI.Storable (upEmb : UEmb _ 𝕄) (recvAny (F := F) c k) := by unfold recvAny; infer_instance

theorem recvAny_of (c : Dev nD) (k : ℕ) (f) : recvPts (F := F) c k f ⊢ recvAny c k := by
  unfold recvAny recvPts slot
  iintro H
  iexists f
  iexact H

/-! ## What a signal or a landing carries -/

/-- What the peer's barrier signal hands `c`: the peer's four receive slots, at round 0 of their cells. -/
def barPay (c : Dev nD) : sProp 𝕄 := bigSep (Finset.range 4) fun s => iprop(recvAny (peer c) s ∗ reached ER (recvCell (peer c) s) 0)
/-- What the peer's credit number `i` tells `c`: the receive slots up to `i` are released and their cells at round 1. -/
def creditPay (c : Dev nD) (i : ℕ) : sProp 𝕄 :=
  bigSep (Finset.range (min i 3 + 1)) fun s => iprop(released ES (key (peer c) s) 1 ∗ reached ER (recvCell (peer c) s) 1)
/-- A landing leaves the peer's logits in the receive slot. -/
def recvPay (c : Dev nD) (k : ℕ) : sProp 𝕄 := recvPts c k (lgBuf m (peer c) k)
/-- A departure gives back the half of the send slot the transfer read. -/
def sendPay (c : Dev nD) (k : ℕ) : sProp 𝕄 := sendPts c k fullShare.right (lgBuf m c k)

instance barPay_storable (c : Dev nD) : BI.Storable (upEmb : UEmb _ 𝕄) (barPay (F := F) c) := by unfold barPay; infer_instance
instance creditPay_storable (c : Dev nD) (i) : BI.Storable (upEmb : UEmb _ 𝕄) (creditPay (F := F) c i) := by unfold creditPay; infer_instance
instance recvPay_storable (c : Dev nD) (k) : BI.Storable (upEmb : UEmb _ 𝕄) (recvPay (F := F) m c k) := by unfold recvPay; infer_instance
instance sendPay_storable (c : Dev nD) (k) : BI.Storable (upEmb : UEmb _ 𝕄) (sendPay (F := F) m c k) := by unfold sendPay; infer_instance

instance creditPay_persistent (c : Dev nD) (i) : BI.Persistent (creditPay (F := F) c i) := by unfold creditPay; infer_instance

def duties (g : GSem nD τ sig) (r : ℕ) : Finset ℕ :=
  if g.1.2 = .tc then
    match g.2 with
    | .reg b => if r = 0 then (if b = barSem then {0} else Finset.range 8) else ∅
    | .dma d => if r < 2 ∧ 5 ≤ d.val then {0} else ∅
  else ∅

def amount (g : GSem nD τ sig) : ℕ := match g.2 with | .reg _ => 1 | .dma _ => N

def payload (g : GSem nD τ sig) (r d : ℕ) : sProp 𝕄 :=
  match g.2 with
  | .reg b => if b = barSem then barPay g.1.1 else creditPay g.1.1 d
  | .dma s => if 9 ≤ s.val then recvPay m g.1.1 (s.val - 9 + 4 * r) else sendPay m g.1.1 (s.val - 5 + 4 * r)

def ringRd : Rounds.Schedule (GSem nD τ sig) ℕ 𝕄 where
  duties := duties
  unitless _ := False
  amount g _ _ := amount g
  payload := payload m
  amount_pos g _ _ _ := by
    unfold amount
    split
    · exact Nat.one_pos
    · exact N_pos

instance ringRd_storable (g : GSem nD τ sig) (r d : ℕ) : BI.Storable (upEmb : UEmb _ 𝕄) ((ringRd (F := F) m).payload g r d) := by
  show BI.Storable upEmb (payload m g r d)
  unfold payload
  split <;> split <;> infer_instance

section Sched
variable (c : Dev nD) (k : ℕ)

theorem duties_bar : (ringRd (F := F) m).duties (barCell c) 0 = {0} := rfl
theorem duties_credit : (ringRd (F := F) m).duties (creditCell c) 0 = Finset.range 8 := rfl
theorem duties_send {r : ℕ} (h : r < 2) : (ringRd (F := F) m).duties (sendCell c k) r = {0} :=
  if_pos ⟨h, Nat.le_add_right 5 _⟩
theorem duties_recv {r : ℕ} (h : r < 2) : (ringRd (F := F) m).duties (recvCell c k) r = {0} :=
  if_pos ⟨h, (show 5 ≤ 9 + k % 4 by omega)⟩
theorem duties_later (g : GSem nD τ sig) : ∀ r, 2 ≤ r → (ringRd (F := F) m).duties g r = ∅ := fun r hr => by
  show duties g r = ∅
  unfold duties
  split
  · split
    · exact if_neg (by omega)
    · exact if_neg (by omega)
  · rfl
theorem duties_later_reg (b : Sem sig) : ∀ r, 1 ≤ r → (ringRd (F := F) m).duties ((c : Thread nD τ), .reg b) r = ∅ :=
  fun r hr => if_neg (by omega)

theorem expect_bar : (ringRd (F := F) m).expect (barCell c) 0 = 1 := by
  unfold Schedule.expect Schedule.amountOf
  rw [duties_bar, Finset.sum_singleton]; rfl
theorem expect_credit : (ringRd (F := F) m).expect (creditCell c) 0 = 8 := by
  unfold Schedule.expect Schedule.amountOf
  rw [duties_credit]
  exact (Finset.sum_congr rfl fun _ _ => rfl).trans (Finset.sum_const 1)
theorem expect_send {r : ℕ} (h : r < 2) : (ringRd (F := F) m).expect (sendCell c k) r = N := by
  unfold Schedule.expect Schedule.amountOf
  rw [duties_send m c k h, Finset.sum_singleton]; rfl
theorem expect_recv {r : ℕ} (h : r < 2) : (ringRd (F := F) m).expect (recvCell c k) r = N := by
  unfold Schedule.expect Schedule.amountOf
  rw [duties_recv m c k h, Finset.sum_singleton]; rfl

theorem payload_bar : (ringRd (F := F) m).payload (barCell c) 0 0 = barPay c := rfl
theorem payload_credit (i : ℕ) : (ringRd (F := F) m).payload (creditCell c) 0 i = creditPay c i := rfl
theorem payload_recv : (ringRd (F := F) m).payload (recvCell c k) (k / 4) 0 = recvPay m c k := by
  show (if 9 ≤ 9 + k % 4 then recvPay m c (9 + k % 4 - 9 + 4 * (k / 4)) else _) = _
  rw [if_pos (by omega), show 9 + k % 4 - 9 + 4 * (k / 4) = k by omega]
theorem payload_send : (ringRd (F := F) m).payload (sendCell c k) (k / 4) 0 = sendPay m c k := by
  show (if 9 ≤ 5 + k % 4 then _ else sendPay m c (5 + k % 4 - 5 + 4 * (k / 4))) = _
  rw [if_neg (by omega), show 5 + k % 4 - 5 + 4 * (k / 4) = k by omega]

theorem rest_bar : bigSep ((ringRd (F := F) m).duties (barCell c) 0 \ ∅) (fun u => (ringRd (F := F) m).payload (barCell c) 0 u) = barPay c := by
  rw [Finset.sdiff_empty, duties_bar, bigSep_singleton, payload_bar]
theorem rest_send (h : k < 8) : bigSep ((ringRd (F := F) m).duties (sendCell c k) (k / 4) \ ∅) (fun u => (ringRd (F := F) m).payload (sendCell c k) (k / 4) u) = sendPay m c k := by
  rw [Finset.sdiff_empty, duties_send m c k (by omega), bigSep_singleton, payload_send]
theorem rest_recv (h : k < 8) : bigSep ((ringRd (F := F) m).duties (recvCell c k) (k / 4) \ ∅) (fun u => (ringRd (F := F) m).payload (recvCell c k) (k / 4) u) = recvPay m c k := by
  rw [Finset.sdiff_empty, duties_recv m c k (by omega), bigSep_singleton, payload_recv]

end Sched

/-! ## What each device owes, in the order it pays, and the levels of the cells

Payment 0 is the barrier signal; then, in program order, the eight transfers and the eight credit signals. -/

inductive Pay | bar | snd (k : ℕ) | crd (i : ℕ)

/-- Payment number `n`. -/
def pay (n : ℕ) : Pay :=
  if n = 0 then .bar else if n < 5 then .snd (n - 1) else if n < 7 then .crd (n - 5) else if n < 9 then .snd (n - 3)
  else if n < 11 then .crd (n - 7) else if n < 13 then .snd (n - 5) else .crd (n - 9)

/-- The index of the credit cell that credit `i` is accounted at: one per wait of the cell. -/
def crdIx (i : ℕ) : ℕ := min (i / 2) 2

def Pay.sem : Pay → SemLoc sig | .bar => .reg barSem | .snd k => .dma (recvSem k) | .crd _ => .reg creditSem
def Pay.ix : Pay → ℕ | .bar => 0 | .snd k => k / 4 | .crd i => crdIx i
def Pay.amt : Pay → ℕ | .bar => 1 | .snd _ => N | .crd _ => 1

def payAt (c : Dev nD) (n : ℕ) : CellTallies nD τ sig ℕ := tallyAt ((peer c : Thread nD τ), (pay n).sem) (pay n).ix (pay n).amt

/-- What is owed before payment `n`. -/
def owed (c : Dev nD) (n : ℕ) : CellTallies nD τ sig ℕ := ∑ i ∈ Finset.Ico n 17, payAt c i

theorem owed_succ (c : Dev nD) {n : ℕ} (h : n < 17) : owed c n = owed c (n + 1) + payAt c n := by
  have e : Finset.Ico n 17 = insert n (Finset.Ico (n + 1) 17) := by
    ext i; simp only [Finset.mem_Ico, Finset.mem_insert]; omega
  unfold owed
  rw [e, Finset.sum_insert (by simp), add_comm]
theorem owed_end (c : Dev nD) : owed c 17 = 0 := by unfold owed; rw [Finset.Ico_self, Finset.sum_empty]

/-- The positions of the transfers and of the credits. -/
def posS (k : ℕ) : ℕ := if k < 4 then k + 1 else 4 * (k / 2) - 1 + k % 2
def posC (i : ℕ) : ℕ := if i < 4 then 4 * (i / 2) + 5 + i % 2 else i + 9

theorem pay_bar : pay 0 = .bar := rfl
theorem pay_posS {k : ℕ} (h : k < 8) : pay (posS k) = .snd k := by interval_cases k <;> rfl
theorem pay_posC {i : ℕ} (h : i < 8) : pay (posC i) = .crd i := by interval_cases i <;> rfl
theorem posS_lt {k : ℕ} (h : k < 8) : posS k < 17 := by unfold posS; split <;> omega
theorem posC_lt {i : ℕ} (h : i < 8) : posC i < 17 := by unfold posC; split <;> omega

theorem owed_bar (c : Dev nD) : owed c 0 = owed c 1 + tallyAt (barCell (peer c)) 0 1 := owed_succ c (by decide)
theorem owed_snd (c : Dev nD) {k : ℕ} (h : k < 8) : owed c (posS k) = owed c (posS k + 1) + tallyAt (recvCell (peer c) k) (k / 4) N := by
  rw [owed_succ c (posS_lt h)]; unfold payAt; rw [pay_posS h]; rfl
theorem owed_crd (c : Dev nD) {i : ℕ} (h : i < 8) : owed c (posC i) = owed c (posC i + 1) + tallyAt (creditCell (peer c)) (crdIx i) 1 := by
  rw [owed_succ c (posC_lt h)]; unfold payAt; rw [pay_posC h]; rfl

/-- The level of a semaphore at an index. -/
def lvS : SemLoc sig → ℕ → ℕ
  | .reg b, i => if b = barSem then 1 else 6 + 4 * i
  | .dma d, i => if 9 ≤ d.val then posS (d.val - 9 + 4 * i) + 1 else 0

def lv (g : GSem nD τ sig) (i : ℕ) : ℕ := lvS g.2 i
def L (g : GSem nD τ sig) : Finset ℕ := if g.1.2 = .tc then Finset.range 3 else ∅
theorem L_of_ne (g : GSem nD τ sig) (h : g.1.2 ≠ .tc) : L g = ∅ := if_neg h
theorem L_tc (c : Dev nD) (sm : SemLoc sig) : L ((c : Thread nD τ), sm) = Finset.range 3 := if_pos rfl

/-- The level of payment `n`. -/
def payLv (n : ℕ) : ℕ := lvS (pay n).sem (pay n).ix

theorem payLv_mono {n i : ℕ} (h : n ≤ i) (hi : i < 17) : payLv n ≤ payLv i := by
  have hh : ∀ i < 17, ∀ n ≤ i, payLv n ≤ payLv i := by decide
  exact hh i hi n h
theorem pay_ix {i : ℕ} (hi : i < 17) : (pay i).ix < 3 := by
  have hh : ∀ i < 17, (pay i).ix < 3 := by decide +kernel
  exact hh i hi

theorem owed_pos {c : Dev nD} {n : ℕ} {g : GSem nD τ sig} {i : ℕ} (h : 0 < owed c n g i) : i ∈ L g ∧ payLv n ≤ lv g i := by
  unfold owed at h
  rw [Finset.sum_apply, Finsupp.finset_sum_apply] at h
  obtain ⟨j, hj, hp⟩ := Finset.exists_ne_zero_of_sum_ne_zero h.ne'
  rw [Finset.mem_Ico] at hj
  unfold payAt at hp
  rw [tallyAt_apply] at hp
  by_cases hg : g = ((peer c : Thread nD τ), (pay j).sem) ∧ i = (pay j).ix
  · obtain ⟨rfl, rfl⟩ := hg
    exact ⟨by rw [L_tc]; exact Finset.mem_range.2 (pay_ix hj.2), payLv_mono hj.1 hj.2⟩
  · rw [if_neg hg] at hp; exact absurd rfl hp

/-- A device that owes payments `n` and later may wait on any of its cells of a lower level. -/
theorem mayWait (c : Dev nD) (sm : SemLoc sig) {ix n : ℕ} (hi : ix < 3) (hl : lvS sm ix < payLv n) :
    (levAts L lv : sProp 𝕄) ⊢ MayWait (c : Thread nD τ) sm ix (owed c n) :=
  MayOwe.of_cut (L := L) (lev := lv) (lvS sm ix)
    (fun p hp => by rw [Finset.mem_singleton.mp hp, L_tc]; exact Finset.mem_range.2 hi)
    (fun g i h => (owed_pos h).1)
    (fun p hp => by rw [Finset.mem_singleton.mp hp]; exact le_refl _)
    (fun g i h => lt_of_lt_of_le hl (owed_pos h).2)

end Cert.SoftmaxProof
-- ==== Proof.Geometry.lean ====
/-
Which elements the kernel's slices cover, and what is read and written through them.
-/
module

public import proofs.«01_k».proof.Proof.Proto
public import Idealize.ShloMosaic.Lib.ValueLayout
public import Idealize.ShloMosaic.Lib.Pipeline.Value
public import Idealize.ShloMosaic.Lib.Pipeline.ValueKit.Geometry

@[expose] public section

noncomputable section

namespace Cert.SoftmaxProof

open Cert.KernelIdeal Cert.KernelIdeal.Gen
open Idealize.ShloMosaic
open Idealize.ShloMosaic.TcCoe
open Idealize.ShloMosaic.ValueIdx
open Idealize.ShloMosaic.ValueKit (rect_emb_unit_val)

variable {F : FTy → Type} [FloatOps F]

/-! ## Index maps of unit rectangles -/

section Generic
variable {n a d : ℕ}

/-- Two indices of rank three with equal coordinates are equal. -/
theorem ext3 {s : Fin 3 → ℕ} {x y : (⟨3, s⟩ : Shape).Idx} (h0 : (x 0).val = (y 0).val) (h1 : (x 1).val = (y 1).val)
    (h2 : (x 2).val = (y 2).val) : x = y := by
  funext j
  apply Fin.ext
  match j with
  | ⟨0, _⟩ => exact h0
  | ⟨1, _⟩ => exact h1
  | ⟨2, _⟩ => exact h2
theorem ext2 {s : Fin 2 → ℕ} {x y : (⟨2, s⟩ : Shape).Idx} (h0 : (x 0).val = (y 0).val) (h1 : (x 1).val = (y 1).val) : x = y := by
  funext j
  apply Fin.ext
  match j with
  | ⟨0, _⟩ => exact h0
  | ⟨1, _⟩ => exact h1

/-- Membership in a unit rectangle of rank three, by coordinates. -/
theorem mem_unit3 {s o z : Fin 3 → ℕ} {inb} {i : (⟨3, s⟩ : Shape).Idx} :
    i ∈ (Rect.unit (s := ⟨3, s⟩) o z inb).set
      ↔ (o 0 ≤ (i 0).val ∧ (i 0).val < o 0 + z 0) ∧ (o 1 ≤ (i 1).val ∧ (i 1).val < o 1 + z 1) ∧ (o 2 ≤ (i 2).val ∧ (i 2).val < o 2 + z 2) := by
  rw [Rect.mem_set_unit]
  exact ⟨fun h => ⟨h 0, h 1, h 2⟩, fun h j => match j with | ⟨0, _⟩ => h.1 | ⟨1, _⟩ => h.2.1 | ⟨2, _⟩ => h.2.2⟩
theorem mem_unit2 {s o z : Fin 2 → ℕ} {inb} {i : (⟨2, s⟩ : Shape).Idx} :
    i ∈ (Rect.unit (s := ⟨2, s⟩) o z inb).set
      ↔ (o 0 ≤ (i 0).val ∧ (i 0).val < o 0 + z 0) ∧ (o 1 ≤ (i 1).val ∧ (i 1).val < o 1 + z 1) := by
  rw [Rect.mem_set_unit]
  exact ⟨fun h => ⟨h 0, h 1⟩, fun h j => match j with | ⟨0, _⟩ => h.1 | ⟨1, _⟩ => h.2⟩

/-- An index of a squeezed slot, with its unit axis put back. -/
theorem reshape_slot (h : (⟨2, ![a, d]⟩ : Shape).numel = (⟨3, ![1, a, d]⟩ : Shape).numel) (i : (⟨2, ![a, d]⟩ : Shape).Idx) :
    Shape.reshapeEquiv h i = ix3 (⟨0, Nat.one_pos⟩ : Fin 1) (i 0) (i 1) := by
  have hi : i = ix2 (i 0) (i 1) := ext2 rfl rfl
  conv_lhs => rw [hi]
  exact reshapeEquiv_ix2_1ab h (i 0) (i 1)

end Generic

/-! ## The kernel's buffers -/

abbrev xM : Memref sig .tc .vmem S1024x2048 .bf16 := Memref.whole cc0_stg0_0
abbrev wHM : Memref sig .tc .hbm S2048x16384 .f32 := Memref.whole main_arg1
abbrev oHM : Memref sig .tc .hbm S1024x32768 .bf16 := Memref.whole main_v1
abbrev sM : Memref sig .tc .vmem S4x128x16384 .bf16 := Memref.whole cc0_scratch0
abbrev rM : Memref sig .tc .vmem S4x128x16384 .bf16 := Memref.whole cc0_scratch1
abbrev oM : Memref sig .tc .vmem S2x128x16384 .bf16 := Memref.whole cc0_scratch2
abbrev bM : Memref sig .tc .vmem S2x2048x512 .f32 := Memref.whole cc0_scratch3

/-- A squeezed slot of a four-slot buffer. -/
abbrev slot4 (M : Memref sig .tc .vmem S4x128x16384 .bf16) (o : Fin 3 → ℕ) (h : ∀ a, o a + S1x128x16384.size a ≤ S4x128x16384.size a) : Memref sig .tc .vmem S128x16384 .bf16 :=
  (M.slice (Rect.unit (s := S4x128x16384) o S1x128x16384.size h) (fun _ => rfl)).squeeze S128x16384 squeezes_S1x128x16384_S128x16384
abbrev slot2 (o : Fin 3 → ℕ) (h : ∀ a, o a + S1x128x16384.size a ≤ S2x128x16384.size a) : Memref sig .tc .vmem S128x16384 .bf16 :=
  (oM.slice (Rect.unit (s := S2x128x16384) o S1x128x16384.size h) (fun _ => rfl)).squeeze S128x16384 squeezes_S1x128x16384_S128x16384
abbrev slotW (o : Fin 3 → ℕ) (h : ∀ a, o a + S1x2048x512.size a ≤ S2x2048x512.size a) : Memref sig .tc .vmem S2048x512 .f32 :=
  (bM.slice (Rect.unit (s := S2x2048x512) o S1x2048x512.size h) (fun _ => rfl)).squeeze S2048x512 squeezes_S1x2048x512_S2048x512
abbrev colW (o : Fin 2 → ℕ) (h : ∀ a, o a + S2048x512.size a ≤ S2048x16384.size a) : Memref sig .tc .hbm S2048x512 .f32 :=
  wHM.slice (Rect.unit (s := S2048x16384) o S2048x512.size h) (fun _ => rfl)
abbrev blkO (o : Fin 2 → ℕ) (h : ∀ a, o a + S128x16384.size a ≤ S1024x32768.size a) : Memref sig .tc .hbm S128x16384 .bf16 :=
  oHM.slice (Rect.unit (s := S1024x32768) o S128x16384.size h) (fun _ => rfl)

/-- The elements of slot `b % 2` of the weights' staging buffer, of the output's staging buffer. -/
def wSlotSet (b : ℕ) : Finset S2x2048x512.Idx := Finset.univ.filter fun i => (i 0).val = b % 2
def oSlotSet (b : ℕ) : Finset S2x128x16384.Idx := Finset.univ.filter fun i => (i 0).val = b % 2
/-- The elements of column block `p` of the weights, and of row block `k`, half `h` of the result. -/
def wColSet (p : ℕ) : Finset S2048x16384.Idx := Finset.univ.filter fun i => (i 1).val / 512 = p
def outSet (k h : ℕ) : Finset S1024x32768.Idx := Finset.univ.filter fun i => (i 0).val / 128 = k ∧ (i 1).val / 16384 = h

theorem mem_wSlotSet {b : ℕ} {i : S2x2048x512.Idx} : i ∈ wSlotSet b ↔ (i 0).val = b % 2 := by simp [wSlotSet]
theorem mem_oSlotSet {b : ℕ} {i : S2x128x16384.Idx} : i ∈ oSlotSet b ↔ (i 0).val = b % 2 := by simp [oSlotSet]
theorem mem_wColSet {p : ℕ} {i : S2048x16384.Idx} : i ∈ wColSet p ↔ (i 1).val / 512 = p := by simp [wColSet]
theorem mem_outSet {k h : ℕ} {i : S1024x32768.Idx} : i ∈ outSet k h ↔ (i 0).val / 128 = k ∧ (i 1).val / 16384 = h := by simp [outSet]

/-! ## The elements of the slices -/

theorem unit_slot4 {k : ℕ} {o : Fin 3 → ℕ} {h} (ho : o = ![k % 4, 0, 0]) :
    (Rect.unit (s := S4x128x16384) o S1x128x16384.size h).set = slotSet k := by
  subst ho
  ext i
  have h1 : (i 1).val < 128 := (i 1).isLt
  have h2 : (i 2).val < 16384 := (i 2).isLt
  rw [mem_unit3, mem_slotSet]
  show (k % 4 ≤ (i 0).val ∧ (i 0).val < k % 4 + 1) ∧ (0 ≤ (i 1).val ∧ (i 1).val < 0 + 128) ∧ (0 ≤ (i 2).val ∧ (i 2).val < 0 + 16384) ↔ _
  omega
theorem unit_slot2 {b : ℕ} {o : Fin 3 → ℕ} {h} (ho : o = ![b % 2, 0, 0]) :
    (Rect.unit (s := S2x128x16384) o S1x128x16384.size h).set = oSlotSet b := by
  subst ho
  ext i
  have h1 : (i 1).val < 128 := (i 1).isLt
  have h2 : (i 2).val < 16384 := (i 2).isLt
  rw [mem_unit3, mem_oSlotSet]
  show (b % 2 ≤ (i 0).val ∧ (i 0).val < b % 2 + 1) ∧ (0 ≤ (i 1).val ∧ (i 1).val < 0 + 128) ∧ (0 ≤ (i 2).val ∧ (i 2).val < 0 + 16384) ↔ _
  omega
theorem unit_slotW {b : ℕ} {o : Fin 3 → ℕ} {h} (ho : o = ![b % 2, 0, 0]) :
    (Rect.unit (s := S2x2048x512) o S1x2048x512.size h).set = wSlotSet b := by
  subst ho
  ext i
  have h1 : (i 1).val < 2048 := (i 1).isLt
  have h2 : (i 2).val < 512 := (i 2).isLt
  rw [mem_unit3, mem_wSlotSet]
  show (b % 2 ≤ (i 0).val ∧ (i 0).val < b % 2 + 1) ∧ (0 ≤ (i 1).val ∧ (i 1).val < 0 + 2048) ∧ (0 ≤ (i 2).val ∧ (i 2).val < 0 + 512) ↔ _
  omega
theorem unit_colW {p : ℕ} {o : Fin 2 → ℕ} {h} (ho : o = ![0, 512 * p]) :
    (Rect.unit (s := S2048x16384) o S2048x512.size h).set = wColSet p := by
  subst ho
  ext i
  have h0 : (i 0).val < 2048 := (i 0).isLt
  rw [mem_unit2, mem_wColSet]
  show (0 ≤ (i 0).val ∧ (i 0).val < 0 + 2048) ∧ (512 * p ≤ (i 1).val ∧ (i 1).val < 512 * p + 512) ↔ _
  omega
theorem unit_blkO {k g : ℕ} {o : Fin 2 → ℕ} {h} (ho : o = ![128 * k, 16384 * g]) :
    (Rect.unit (s := S1024x32768) o S128x16384.size h).set = outSet k g := by
  subst ho
  ext i
  rw [mem_unit2, mem_outSet]
  show (128 * k ≤ (i 0).val ∧ (i 0).val < 128 * k + 128) ∧ (16384 * g ≤ (i 1).val ∧ (i 1).val < 16384 * g + 16384) ↔ _
  omega

theorem set_slot4s {k : ℕ} {o : Fin 3 → ℕ} {h} (ho : o = ![k % 4, 0, 0]) : (slot4 sM o h).view.set = slotSet k :=
  (View.set_reshape _ _).trans ((View.set_slice_whole _ _).trans (unit_slot4 ho))
theorem set_slot4r {k : ℕ} {o : Fin 3 → ℕ} {h} (ho : o = ![k % 4, 0, 0]) : (slot4 rM o h).view.set = slotSet k :=
  (View.set_reshape _ _).trans ((View.set_slice_whole _ _).trans (unit_slot4 ho))
theorem set_slot2 {b : ℕ} {o : Fin 3 → ℕ} {h} (ho : o = ![b % 2, 0, 0]) : (slot2 o h).view.set = oSlotSet b :=
  (View.set_reshape _ _).trans ((View.set_slice_whole _ _).trans (unit_slot2 ho))
theorem set_slotW {b : ℕ} {o : Fin 3 → ℕ} {h} (ho : o = ![b % 2, 0, 0]) : (slotW o h).view.set = wSlotSet b :=
  (View.set_reshape _ _).trans ((View.set_slice_whole _ _).trans (unit_slotW ho))
theorem set_colW {p : ℕ} {o : Fin 2 → ℕ} {h} (ho : o = ![0, 512 * p]) : (colW o h).view.set = wColSet p :=
  (View.set_slice_whole _ _).trans (unit_colW ho)
theorem set_blkO {k g : ℕ} {o : Fin 2 → ℕ} {h} (ho : o = ![128 * k, 16384 * g]) : (blkO o h).view.set = outSet k g :=
  (View.set_slice_whole _ _).trans (unit_blkO ho)

/-! ## The contents read and written through them -/

/-- A slot's transfer leaves the source's contents in the same slot of the other buffer. -/
theorem write_slot4 {k : ℕ} {o : Fin 3 → ℕ} {h} (ho : o = ![k % 4, 0, 0]) (fd fs : Vec F S4x128x16384 .bf16)
    {i : S4x128x16384.Idx} (hi : i ∈ slotSet k) :
    (slot4 rM o h).view.write (Elt F) fd ((slot4 sM o h).view.read (Elt F) fs) Finset.univ i = fs i := by
  rw [← set_slot4r (h := h) ho] at hi
  obtain ⟨j, -, rfl⟩ := Finset.mem_map.1 hi
  exact View.write_emb_of_mem _ _ (Finset.mem_univ j)

/-- Column block `p` of the weights as any slot of the staging buffer holds it. -/
def wBuf (w : Vec F S2048x16384 .f32) (p : ℕ) : Vec F S2x2048x512 .f32 := fun i => wBlk w p (ix3 (0 : Fin 1) (i 1) (i 2))

theorem write_slotW {b p : ℕ} {o : Fin 3 → ℕ} {o' : Fin 2 → ℕ} {h h'} (ho : o = ![b % 2, 0, 0]) (ho' : o' = ![0, 512 * p])
    (fd : Vec F S2x2048x512 .f32) (w : Vec F S2048x16384 .f32) {i : S2x2048x512.Idx} (hi : i ∈ wSlotSet b) :
    (slotW o h).view.write (Elt F) fd ((colW o' h').view.read (Elt F) w) Finset.univ i = wBuf w p i := by
  rw [← set_slotW (h := h) ho] at hi
  obtain ⟨j, -, rfl⟩ := Finset.mem_map.1 hi
  rw [View.write_emb_of_mem _ _ (Finset.mem_univ j)]
  subst ho'
  have hj1 : (j 1).val < 512 := (j 1).isLt
  have hp : 512 * p + 512 ≤ 16384 := h' 1
  have e : (slotW o h).view.emb j = (Rect.unit (s := S2x2048x512) o S1x2048x512.size h).emb (ix3 (⟨0, Nat.one_pos⟩ : Fin 1) (j 0) (j 1)) := by
    show (Rect.unit (s := S2x2048x512) o S1x2048x512.size h).emb (Shape.reshapeEquiv _ j) = _
    rw [reshape_slot]; rfl
  subst ho
  have e1 : ((slotW ![b % 2, 0, 0] h).view.emb j 1).val = (j 0).val := by
    rw [e, rect_emb_unit_val]; exact Nat.zero_add _
  have e2 : ((slotW ![b % 2, 0, 0] h).view.emb j 2).val = (j 1).val := by
    rw [e, rect_emb_unit_val]; exact Nat.zero_add _
  show w ((Rect.unit (s := S2048x16384) ![0, 512 * p] S2048x512.size h').emb j) = w _
  congr 1
  refine ext2 ?_ ?_
  · rw [rect_emb_unit_val]; show 0 + (j 0).val = ((slotW ![b % 2, 0, 0] h).view.emb j 1).val; rw [e1, Nat.zero_add]
  · rw [rect_emb_unit_val]
    show 512 * p + (j 1).val = (512 * p + ((slotW ![b % 2, 0, 0] h).view.emb j 2).val) % 16384
    rw [e2, Nat.mod_eq_of_lt (by omega)]

/-- What a load of a slot of the weights' staging buffer reads. -/
theorem read_slotW {b p : ℕ} {o : Fin 3 → ℕ} {h} (ho : o = ![b % 2, 0, 0]) (w : Vec F S2048x16384 .f32) :
    bM.view.readAt (Elt F) (Rect.unit (s := S2x2048x512) o S1x2048x512.size h).toLoadRect (wBuf w p) = wBlk w p := by
  subst ho
  funext i
  show wBlk w p _ = _
  congr 1
  refine ext3 ?_ ?_ ?_
  · have : (i 0).val < 1 := (i 0).isLt
    show 0 = (i 0).val; omega
  · show ((Rect.unit (s := S2x2048x512) ![b % 2, 0, 0] S1x2048x512.size h).emb i 1).val = _
    rw [rect_emb_unit_val]; exact Nat.zero_add _
  · show ((Rect.unit (s := S2x2048x512) ![b % 2, 0, 0] S1x2048x512.size h).emb i 2).val = _
    rw [rect_emb_unit_val]; exact Nat.zero_add _

/-- What a load of a row block of the activations reads. -/
theorem read_xM {k : ℕ} {o : Fin 2 → ℕ} {h} (ho : o = ![128 * k, 0]) (x : Vec F S1024x2048 .bf16) :
    xM.view.readAt (Elt F) (Rect.unit (s := S1024x2048) o S128x2048.size h).toLoadRect x = xChunk x k := by
  subst ho
  funext i
  have hk : 128 * k + 128 ≤ 1024 := h 0
  have h0 : (i 0).val < 128 := (i 0).isLt
  show x ((Rect.unit (s := S1024x2048) ![128 * k, 0] S128x2048.size h).emb i) = x _
  congr 1
  refine ext2 ?_ ?_
  · rw [rect_emb_unit_val]
    show 128 * k + (i 0).val = (128 * k + (i 0).val) % 1024
    rw [Nat.mod_eq_of_lt (by omega)]
  · rw [rect_emb_unit_val]; exact Nat.zero_add _

variable (m : (ℓ : Loc nD τ sig) → Buf (Elt F) ℓ)

/-- What a load of a whole slot holding logits reads. -/
theorem read_slot4s {c : Dev nD} {k : ℕ} {o : Fin 3 → ℕ} {h} (ho : o = ![k % 4, 0, 0]) :
    sM.view.readAt (Elt F) (Rect.unit (s := S4x128x16384) o S1x128x16384.size h).toLoadRect (lgBuf m c k) = lg (xOf m c) (wOf m c) k := by
  subst ho
  funext i
  show lg (xOf m c) (wOf m c) k _ = _
  congr 1
  refine ext3 ?_ ?_ ?_
  · have : (i 0).val < 1 := (i 0).isLt
    show 0 = (i 0).val; omega
  · show ((Rect.unit (s := S4x128x16384) ![k % 4, 0, 0] S1x128x16384.size h).emb i 1).val = _
    rw [rect_emb_unit_val]; exact Nat.zero_add _
  · show ((Rect.unit (s := S4x128x16384) ![k % 4, 0, 0] S1x128x16384.size h).emb i 2).val = _
    rw [rect_emb_unit_val]; exact Nat.zero_add _
theorem read_slot4r {c : Dev nD} {k : ℕ} {o : Fin 3 → ℕ} {h} (ho : o = ![k % 4, 0, 0]) :
    rM.view.readAt (Elt F) (Rect.unit (s := S4x128x16384) o S1x128x16384.size h).toLoadRect (lgBuf m c k) = lg (xOf m c) (wOf m c) k :=
  read_slot4s m ho

/-- A block of the output as any slot of its staging buffer holds it. -/
def oBuf (v : Vec F S1x128x16384 .bf16) : Vec F S2x128x16384 .bf16 := fun i => v (ix3 (0 : Fin 1) (i 1) (i 2))

/-- What a load of a slot of the output's staging buffer reads. -/
theorem read_slot2 {b : ℕ} {o : Fin 3 → ℕ} {h} (ho : o = ![b % 2, 0, 0]) (v : Vec F S1x128x16384 .bf16) :
    oM.view.readAt (Elt F) (Rect.unit (s := S2x128x16384) o S1x128x16384.size h).toLoadRect (oBuf v) = v := by
  subst ho
  funext i
  show v _ = _
  congr 1
  refine ext3 ?_ ?_ ?_
  · have : (i 0).val < 1 := (i 0).isLt
    show 0 = (i 0).val; omega
  · show ((Rect.unit (s := S2x128x16384) ![b % 2, 0, 0] S1x128x16384.size h).emb i 1).val = _
    rw [rect_emb_unit_val]; exact Nat.zero_add _
  · show ((Rect.unit (s := S2x128x16384) ![b % 2, 0, 0] S1x128x16384.size h).emb i 2).val = _
    rw [rect_emb_unit_val]; exact Nat.zero_add _

/-- A store of a whole slot of the output's staging buffer leaves the stored vector there. -/
theorem store_slot2 {b : ℕ} {o : Fin 3 → ℕ} {h} (ho : o = ![b % 2, 0, 0]) (f : Vec F S2x128x16384 .bf16) (v : Vec F S1x128x16384 .bf16)
    {i : S2x128x16384.Idx} (hi : i ∈ oSlotSet b) :
    (oM.access (Rect.unit (s := S2x128x16384) o S1x128x16384.size h)).write (Elt F) f v Finset.univ i = oBuf v i := by
  rw [← unit_slot2 (h := h) ho, ← View.set_slice_whole cc0_scratch2] at hi
  obtain ⟨j, -, rfl⟩ := Finset.mem_map.1 hi
  refine (View.write_emb_of_mem _ _ (Finset.mem_univ j)).trans ?_
  subst ho
  show v j = v _
  congr 1
  refine ext3 ?_ ?_ ?_
  · have : (j 0).val < 1 := (j 0).isLt
    show (j 0).val = 0; omega
  · show _ = ((Rect.unit (s := S2x128x16384) ![b % 2, 0, 0] S1x128x16384.size h).emb j 1).val
    rw [rect_emb_unit_val]; exact (Nat.zero_add _).symm
  · show _ = ((Rect.unit (s := S2x128x16384) ![b % 2, 0, 0] S1x128x16384.size h).emb j 2).val
    rw [rect_emb_unit_val]; exact (Nat.zero_add _).symm

/-- The copy of a block of the output to its place leaves the block there. -/
theorem write_blkO {b k g : ℕ} {o : Fin 3 → ℕ} {o' : Fin 2 → ℕ} {h h'} (ho : o = ![b % 2, 0, 0]) (ho' : o' = ![128 * k, 16384 * g])
    (fd : Vec F S1024x32768 .bf16) (v : Vec F S1x128x16384 .bf16) {i : S1024x32768.Idx} (hi : i ∈ outSet k g) :
    (blkO o' h').view.write (Elt F) fd ((slot2 o h).view.read (Elt F) (oBuf v)) Finset.univ i
      = v (ix3 (0 : Fin 1) (⟨(i 0).val % 128, Nat.mod_lt _ (by decide)⟩ : Fin 128) (⟨(i 1).val % 16384, Nat.mod_lt _ (by decide)⟩ : Fin 16384)) := by
  rw [← set_blkO (h := h') ho'] at hi
  obtain ⟨j, -, rfl⟩ := Finset.mem_map.1 hi
  rw [View.write_emb_of_mem _ _ (Finset.mem_univ j)]
  subst ho ho'
  have h0 : (j 0).val < 128 := (j 0).isLt
  have h1 : (j 1).val < 16384 := (j 1).isLt
  have e : (slot2 ![b % 2, 0, 0] h).view.emb j = (Rect.unit (s := S2x128x16384) ![b % 2, 0, 0] S1x128x16384.size h).emb (ix3 (⟨0, Nat.one_pos⟩ : Fin 1) (j 0) (j 1)) := by
    show (Rect.unit (s := S2x128x16384) ![b % 2, 0, 0] S1x128x16384.size h).emb (Shape.reshapeEquiv _ j) = _
    rw [reshape_slot]; rfl
  show v (ix3 (0 : Fin 1) ((slot2 ![b % 2, 0, 0] h).view.emb j 1) ((slot2 ![b % 2, 0, 0] h).view.emb j 2)) = v _
  congr 1
  refine ext3 rfl ?_ ?_
  · show ((slot2 ![b % 2, 0, 0] h).view.emb j 1).val = ((Rect.unit (s := S1024x32768) ![128 * k, 16384 * g] S128x16384.size h').emb j 0).val % 128
    rw [e, rect_emb_unit_val, rect_emb_unit_val]
    show 0 + (j 0).val = (128 * k + (j 0).val) % 128
    omega
  · show ((slot2 ![b % 2, 0, 0] h).view.emb j 2).val = ((Rect.unit (s := S1024x32768) ![128 * k, 16384 * g] S128x16384.size h').emb j 1).val % 16384
    rw [e, rect_emb_unit_val, rect_emb_unit_val]
    show 0 + (j 1).val = (16384 * g + (j 1).val) % 16384
    omega

/-! ## A column block of logits stored -/

abbrev rectC (o : Fin 3 → ℕ) (h : ∀ a, o a + S1x128x512.size a ≤ S4x128x16384.size a) : Rect S4x128x16384 := Rect.unit (s := S4x128x16384) o S1x128x512.size h

theorem rectC_sub {k p : ℕ} {o : Fin 3 → ℕ} {h} (ho : o = ![k % 4, 0, 512 * p]) : (rectC o h).set ⊆ slotSet k := by
  subst ho
  intro i hi
  rw [mem_unit3] at hi
  rw [mem_slotSet]
  have := hi.1
  change k % 4 ≤ (i 0).val ∧ (i 0).val < k % 4 + 1 at this
  omega

/-- After column block `p` is stored over contents right on the blocks before it, the contents are right up to `p`. -/
theorem store_col {c : Dev nD} {k p : ℕ} {o : Fin 3 → ℕ} {h} (ho : o = ![k % 4, 0, 512 * p]) (f : Vec F S4x128x16384 .bf16)
    (hf : ∀ i ∈ slotSet k, (i 2).val < 512 * p → f i = lgBuf m c k i) {i : S4x128x16384.Idx} (hi : i ∈ slotSet k)
    (hlt : (i 2).val < 512 * (p + 1)) :
    (sM.access (rectC o h)).write (Elt F) f (colPay (k0_pay14 (xChunk (xOf m c) k)) (wBlk (wOf m c) p)) Finset.univ i = lgBuf m c k i := by
  by_cases hm : i ∈ (sM.access (rectC o h)).set
  · obtain ⟨j, -, rfl⟩ := Finset.mem_map.1 hm
    rw [View.write_emb_of_mem _ _ (Finset.mem_univ j)]
    subst ho
    have j2 : (j 2).val < 512 := (j 2).isLt
    have e1 : ((sM.access (rectC ![k % 4, 0, 512 * p] h)).emb j 1).val = (j 1).val := by
      show ((rectC ![k % 4, 0, 512 * p] h).emb j 1).val = _
      rw [rect_emb_unit_val]; exact Nat.zero_add _
    have e2 : ((sM.access (rectC ![k % 4, 0, 512 * p] h)).emb j 2).val = 512 * p + (j 2).val := by
      show ((rectC ![k % 4, 0, 512 * p] h).emb j 2).val = _
      rw [rect_emb_unit_val]; rfl
    show colPay (k0_pay14 (xChunk (xOf m c) k)) (wBlk (wOf m c) p) j
      = colPay (k0_pay14 (xChunk (xOf m c) k)) (wBlk (wOf m c) (((sM.access (rectC ![k % 4, 0, 512 * p] h)).emb j 2).val / 512)) _
    rw [show ((sM.access (rectC ![k % 4, 0, 512 * p] h)).emb j 2).val / 512 = p by rw [e2]; omega]
    congr 1
    refine ext3 ?_ ?_ ?_
    · have : (j 0).val < 1 := (j 0).isLt
      show (j 0).val = 0; omega
    · exact e1.symm
    · show (j 2).val = ((sM.access (rectC ![k % 4, 0, 512 * p] h)).emb j 2).val % 512
      rw [e2]; omega
  · rw [View.write_of_not_mem _ _ _ hm]
    refine hf i hi ?_
    by_contra hge
    apply hm
    rw [View.set_slice_whole]
    subst ho
    have h1 : (i 1).val < 128 := (i 1).isLt
    rw [mem_slotSet] at hi
    rw [mem_unit3]
    show (k % 4 ≤ (i 0).val ∧ (i 0).val < k % 4 + 1) ∧ (0 ≤ (i 1).val ∧ (i 1).val < 0 + 128) ∧ (512 * p ≤ (i 2).val ∧ (i 2).val < 512 * p + 512)
    omega

end Cert.SoftmaxProof
-- ==== Proof.Ops.lean ====
/-
One rule per operation of the kernel body, in the terms of the protocol.
-/
module

public import proofs.«01_k».proof.Proof.Geometry
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- A program of device `c`'s core, run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use: the cells, the slots, the levels -/

def CI (g : GSem nD τ sig) : sProp 𝕄 := iprop(∃ κ : ℕ, cellInv ER (ringRd m) κ g)
def SI (c : Dev nD) (k : ℕ) : sProp 𝕄 := iprop(∃ ι : ℕ, slotInv ES ι (key c k) (recvAny c k))
instance CI_persistent (g) : BI.Persistent (CI (F := F) m g) := by unfold CI; infer_instance
instance SI_persistent (c k) : BI.Persistent (SI (F := F) c k) := by unfold SI; infer_instance

/-- What device `c` owes before payment `n`, whatever it waited for so far. -/
def OW (c : Dev nD) (n : ℕ) : sProp 𝕄 := iprop(∃ W, owes (c : Thread nD τ) (owed c n) W)

theorem payLv_pos (n : ℕ) : 0 < payLv n := by
  unfold payLv pay
  split_ifs <;> simp [Pay.sem, lvS] <;> omega

/-- A wait on a cell that every payment is above. -/
theorem mayWait_low (c : Dev nD) (d : DmaSem sig) (h : d.val < 9) (n : ℕ) :
    (levAts L lv : sProp 𝕄) ⊢ MayWait (c : Thread nD τ) (.dma d) 0 (owed c n) :=
  mayWait c (.dma d) (by decide) (by
    rw [show lvS (.dma d) 0 = 0 from if_neg (by omega)]
    exact payLv_pos n)

/-! ## The remote transfers and their cells -/

/-- What a chunk on its way leaves at its sender. -/
def sent (c : Dev nD) (k : ℕ) : sProp 𝕄 :=
  iprop(sendPts c k fullShare.left (lgBuf m c k) ∗ cred (tallyAt (sendCell c k) 0 N) ∗ atPos ER (sendCell c k) (k / 4) ∅ 0)

/-- A send slot ready for chunk `k`. -/
def freeSlot (c : Dev nD) (k : ℕ) : sProp 𝕄 :=
  iprop((∃ f, sendPts (F := F) c k fullShare f) ∗ atPos ER (sendCell c k) (k / 4) ∅ 0 ∗ reached ER (sendCell c k) (k / 4))

theorem slotSet_mod (k : ℕ) : slotSet (k + 4) = slotSet k := by
  ext i; rw [mem_slotSet, mem_slotSet, Nat.add_mod_right]
theorem sendSem_mod (k : ℕ) : sendSem (k + 4) = sendSem k := Fin.ext (by show 5 + (k + 4) % 4 = 5 + k % 4; omega)
theorem recvSem_mod (k : ℕ) : recvSem (k + 4) = recvSem k := Fin.ext (by show 9 + (k + 4) % 4 = 9 + k % 4; omega)
theorem key_mod (c : Dev nD) (k : ℕ) : key c (k + 4) = key c k := by unfold key; rw [Nat.add_mod_right]
theorem recvAny_mod (c : Dev nD) (k : ℕ) : recvAny (F := F) c (k + 4) = recvAny c k := by unfold recvAny; rw [slotSet_mod]

/-- The wait for a chunk's departure: its send slot is free for the chunk four later. -/
theorem wp_sendWait (c : Dev nD) {k n : ℕ} (hk : k < 8) {sp sp' : Space} {s s' : Shape} {e e' : EltTy} {κ' : Kind} {sem : DmaSem sig} (hs : sem = sendSem k)
    {srcw : Memref sig .tc sp' s' e'} {dstw : Memref sig κ' sp s e} {hsrc : srcw.view.WordExact} {hdst : dstw.view.WordExact}
    (hN : dstw.view.dmaCredit = N) {α : Type} {kk : PUnit → Prog (TpuEff nD τ sig (Elt F) Λ₀ .tc) α} {Q : α → sProp 𝕄} :
    iprop(CI m (sendCell c k) ∗ levAts L lv ∗ sent m c k ∗ OW c n)
      ⊢ iprop((freeSlot (F := F) c (k + 4) ∗ OW c n -∗ WP c (kk ⟨⟩) Q) -∗ WP c (.op (.waitDma2 sem srcw dstw hsrc hdst) kk) Q) := by
  subst hs
  unfold CI sent OW
  iintro ⟨⟨%κ, #HI⟩, #Hlev, ⟨Hl, Hc, Hat⟩, ⟨%W, HO⟩⟩ Hk
  iapply (Rounds.wp_wait_rest_token 𝒱₀ ER (ringRd m) (c : Thread nD τ) none (κ := κ)
      (wpE_waitDma2_eq 𝒱₀ (c : Thread nD τ) none Set.univ) (Set.mem_univ _) 0 (O := owed c n) (W := W) (R := k / 4) (m := 0) (T := ∅)
      (by rw [Nat.zero_add, expect_send m c k (by omega)]; exact hN)) $$ [Hc HO Hat]
  · isplitr; · iexact HI
    isplitl [Hc]; · rw [hN]; iexact Hc
    isplitl [HO]; · iexact HO
    isplitr; · iapply (mayWait_low c (sendSem k) (by show 5 + k % 4 < 9; omega) n); iexact Hlev
    iexact Hat
  iintro ⟨HO, Hat, #Hr, Hpay⟩
  ihave Hp := (Entails.of_eq (rest_send m c k hk)) $$ Hpay
  iapply Hk
  isplitr [HO]
  · unfold freeSlot sendCell
    rw [sendSem_mod, show (k + 4) / 4 = k / 4 + 1 by omega]
    isplitl [Hl Hp]
    · iexists (lgBuf m c k)
      unfold sendPay sendPts
      rw [slotSet_mod]
      iapply (pointsTo_share (PosShare.mem_left_op_right fullShare)).2
      isplitl [Hl] <;> iassumption
    isplitl [Hat]; · iexact Hat
    iexact Hr
  · iexists (insert (SemLoc.dma (sendSem k), 0) W); iexact HO

/-- The wait for a chunk's arrival. -/
theorem wp_recvWait (c : Dev nD) {k n : ℕ} (hk : k < 8) (hlv : posS k + 1 < payLv n) {sp sp' : Space} {s s' : Shape} {e e' : EltTy} {κ' : Kind} {sem : DmaSem sig} (hs : sem = recvSem k)
    {srcw : Memref sig .tc sp' s' e'} {dstw : Memref sig κ' sp s e} {hsrc : srcw.view.WordExact} {hdst : dstw.view.WordExact}
    (hN : dstw.view.dmaCredit = N) {α : Type} {kk : PUnit → Prog (TpuEff nD τ sig (Elt F) Λ₀ .tc) α} {Q : α → sProp 𝕄} :
    iprop(CI m (recvCell c k) ∗ levAts L lv ∗ cred (tallyAt (recvCell c k) (k / 4) N) ∗ atPos ER (recvCell c k) (k / 4) ∅ 0 ∗ OW c n)
      ⊢ iprop((recvPts c k (lgBuf m (peer c) k) ∗ atPos ER (recvCell c (k + 4)) ((k + 4) / 4) ∅ 0 ∗ reached ER (recvCell c k) (k / 4 + 1) ∗ OW c n
            -∗ WP c (kk ⟨⟩) Q) -∗ WP c (.op (.waitDma2 sem srcw dstw hsrc hdst) kk) Q) := by
  subst hs
  unfold CI OW
  iintro ⟨⟨%κ, #HI⟩, #Hlev, Hc, Hat, ⟨%W, HO⟩⟩ Hk
  iapply (Rounds.wp_wait_rest_token 𝒱₀ ER (ringRd m) (c : Thread nD τ) none (κ := κ)
      (wpE_waitDma2_eq 𝒱₀ (c : Thread nD τ) none Set.univ) (Set.mem_univ _) (k / 4) (O := owed c n) (W := W) (R := k / 4) (m := 0) (T := ∅)
      (by rw [Nat.zero_add, expect_recv m c k (by omega)]; exact hN)) $$ [Hc HO Hat]
  · isplitr; · iexact HI
    isplitl [Hc]; · rw [hN]; iexact Hc
    isplitl [HO]; · iexact HO
    isplitr
    · iapply (mayWait c (.dma (recvSem k)) (ix := k / 4) (by omega) (by
        show (if 9 ≤ 9 + k % 4 then posS (9 + k % 4 - 9 + 4 * (k / 4)) + 1 else 0) < _
        rw [if_pos (by omega), show 9 + k % 4 - 9 + 4 * (k / 4) = k by omega]; exact hlv))
      iexact Hlev
    iexact Hat
  iintro ⟨HO, Hat, #Hr, Hpay⟩
  ihave Hp := (Entails.of_eq (rest_recv m c k hk)) $$ Hpay
  iapply Hk
  isplitl [Hp]; · unfold recvPay; iexact Hp
  isplitl [Hat]
  · unfold recvCell
    rw [recvSem_mod, show (k + 4) / 4 = k / 4 + 1 by omega]; iexact Hat
  isplitr; · iexact Hr
  iexists (insert (SemLoc.dma (recvSem k), k / 4) W); iexact HO

/-- What the sender of chunk `k` holds for its transfer besides the data. -/
def toks (c : Dev nD) (k : ℕ) : sProp 𝕄 :=
  iprop(dutyTok ER (sendCell c k) (k / 4) 0 ∗ dutyTok ER (recvCell (peer c) k) (k / 4) 0)

/-- The transfer of chunk `k` to the same slot of the peer's receive buffer. -/
theorem wp_send (c : Dev nD) {k : ℕ} (hk : k < 8) {d : Dev nD} (hd : d = peer c) {sS sR : DmaSem sig} (hsS : sS = sendSem k) (hsR : sR = recvSem k)
    {o o' : Fin 3 → ℕ} {h h'} (ho : o = ![k % 4, 0, 0]) (ho' : o' = ![k % 4, 0, 0])
    {hsc} {hsrc : (slot4 sM o h).view.WordExact} {hdst : (slot4 rM o' h').view.WordExact} {hsem}
    {α : Type} {kk : PUnit → Prog (TpuEff nD τ sig (Elt F) Λ₀ .tc) α} {Q : α → sProp 𝕄} :
    iprop(CI m (sendCell c k) ∗ CI m (recvCell (peer c) k) ∗ sendPts c k fullShare (lgBuf m c k) ∗ recvAny (peer c) k
        ∗ atPos ER (sendCell c k) (k / 4) ∅ 0 ∗ toks (F := F) c k ∗ reached ER (sendCell c k) (k / 4) ∗ reached ER (recvCell (peer c) k) (k / 4) ∗ OW c (posS k))
      ⊢ iprop((sent m c k ∗ OW c (posS k + 1) -∗ WP c (kk ⟨⟩) Q)
          -∗ WP c (.op (.enqueueDma (slot4 sM o h) (.remote (Dev.tc d) (slot4 rM o' h') (.dma sS) hsc) (.dma sR) hsrc hdst hsem) kk) Q) := by
  subst hd hsS hsR
  obtain rfl : o = o' := ho.trans ho'.symm
  unfold CI OW toks recvAny slot
  iintro ⟨⟨%κ₁, #HI₁⟩, ⟨%κ₂, #HI₂⟩, Hs, ⟨%fd, Hd⟩, Hat, ⟨Ht₁, Ht₂⟩, #Hr₁, #Hr₂, ⟨%W, HO⟩⟩ Hk
  unfold sendPts
  ihave Hs := (pointsTo_share (PosShare.mem_left_op_right fullShare)).1 $$ Hs
  icases Hs with ⟨Hl, Hs⟩
  iapply (Rounds.wp_send_pointsTo 𝒱₀ ER (ringRd m) (c : Thread nD τ) none (κ₁ := κ₁) (κ₂ := κ₂) (r₁ := k / 4) (r₂ := k / 4) (d₁ := 0) (d₂ := 0)
      (fs := lgBuf m c k) (fd := fd) (q := fullShare.right)
      (by rw [duties_send m c k (by omega)]; exact Finset.mem_singleton_self _)
      (by rw [duties_recv m (peer c) k (by omega)]; exact Finset.mem_singleton_self _)
      (k / 4) 0 N rfl rfl rfl (owed c (posS k + 1)) (owed_snd c hk) (W := W)
      (by rw [payload_send, set_slot4s ho]; exact Entails.rfl)
      (by
        rw [payload_recv]; unfold recvPay recvPts; rw [peer_peer, set_slot4r ho']
        exact Entails.of_eq (pointsTo_congr fun i hi => write_slot4 ho fd (lgBuf m c k) hi))) $$ [Hs Hd HO Ht₁ Ht₂]
  · isplitr; · iexact HI₁
    isplitr; · iexact HI₂
    isplitl [Hs]; · rw [set_slot4s ho]; iexact Hs
    isplitl [Hd]; · rw [set_slot4r ho']; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitr [HO]
  · unfold sent sendPts
    isplitl [Hl]; · iexact Hl
    isplitl [Hc] <;> iassumption
  · iexists W; iexact HO

end Cert.SoftmaxProof
-- ==== Proof.Copies.lean ====
/-
The credit signals and waits, and the local copies, loads and stores of the kernel body.
-/
module

public import proofs.«01_k».proof.Proof.Ops
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## Credits -/

/-- A receive slot given up once: what a device learns of a slot of `c`. -/
def freed (c : Dev nD) (s : ℕ) : sProp 𝕄 := iprop(released ES (key c s) 1 ∗ reached ER (recvCell c s) 1)
instance freed_persistent (c s) : BI.Persistent (freed (F := F) c s) := by unfold freed; infer_instance

/-- The first `n` slots of the peer are given up. -/
def grants (c : Dev nD) (n : ℕ) : sProp 𝕄 := bigSep (Finset.range n) fun s => freed (F := F) (peer c) s
instance grants_persistent (c n) : BI.Persistent (grants (F := F) c n) := by unfold grants; infer_instance

theorem creditPay_eq (c : Dev nD) (i : ℕ) : creditPay (F := F) c i = grants c (min i 3 + 1) := rfl

/-- The slots a device gave up itself, as a credit to the peer. -/
theorem creditPay_peer (c : Dev nD) (i : ℕ) : creditPay (F := F) (peer c) i = bigSep (Finset.range (min i 3 + 1)) fun s => freed (F := F) c s := by
  rw [creditPay_eq]; unfold grants; rw [peer_peer]

theorem wp_credit (c : Dev nD) {i : ℕ} (hi : i < 8) {d : Dev nD} (hd : d = peer c) {sem : Sem sig} (hs : sem = creditSem) {w : ℤ} (hw : w = ((1 : ℕ) : ℤ))
    {α : Type} {kk : PUnit → Prog (TpuEff nD τ sig (Elt F) Λ₀ .tc) α} {Q : α → sProp 𝕄} :
    iprop(CI m (creditCell (peer c)) ∗ reached ER (creditCell (peer c)) 0 ∗ dutyTok ER (creditCell (peer c)) 0 i
        ∗ creditPay (F := F) (peer c) i ∗ OW c (posC i))
      ⊢ iprop((OW c (posC i + 1) -∗ WP c (kk ⟨⟩) Q) -∗ WP c (.op (.semSignal (d, .tc) sem w) kk) Q) := by
  subst hd hs hw
  unfold CI OW
  iintro ⟨⟨%κ, #HI⟩, #Hr, Ht, Hp, ⟨%W, HO⟩⟩ Hk
  iapply (Rounds.wp_signal 𝒱₀ ER (ringRd m) (c : Thread nD τ) none (dst := (peer c : Thread nD τ)) (κ := κ) (r := 0) (d := i)
      (by rw [duties_credit]; exact Finset.mem_range.2 hi) rfl (crdIx i) (owed c (posC i + 1)) (owed_crd c hi)) $$ [HO Ht Hp]
  · isplitr; · iexact HI
    isplitl [HO]; · iexact HO
    isplitl [Ht]; · iexact Ht
    isplitl [Hp]; · rw [payload_credit]; iexact Hp
    iexact Hr
  iintro HO
  iapply Hk
  iexists W; iexact HO

/-- A device's own credit cell after `q` waits. -/
def credSt (c : Dev nD) (q : ℕ) : sProp 𝕄 :=
  iprop(∃ T, ⌜T ⊆ Finset.range 8⌝ ∗ atPos ER (creditCell c) 0 T (2 * q) ∗ bigSep T (fun i => creditPay (F := F) c i)
    ∗ bigSep (Finset.Ico q 3) fun i => cred (tallyAt (creditCell c) i (if i < 2 then 2 else 4)))

theorem exists_ge {S : Finset ℕ} {n : ℕ} (h : n + 1 ≤ S.card) : ∃ i ∈ S, n ≤ i := by
  by_contra hc
  have : S ⊆ Finset.range n := fun i hi => Finset.mem_range.2 (by
    by_contra hge; exact hc ⟨i, hi, by omega⟩)
  have := Finset.card_le_card this
  rw [Finset.card_range] at this
  omega

theorem bigSep_Ico_pop {M : Type} [URA M] {a b : ℕ} (h : a < b) (Φ : ℕ → sProp M) : bigSep (Finset.Ico a b) Φ = iprop(Φ a ∗ bigSep (Finset.Ico (a + 1) b) Φ) := by
  have e : Finset.Ico a b = insert a (Finset.Ico (a + 1) b) := by
    ext i; simp only [Finset.mem_Ico, Finset.mem_insert]; omega
  rw [e, bigSep_insert (by simp)]; rfl
theorem bigSep_Ico_push {M : Type} [URA M] {a b : ℕ} (h : a ≤ b) (Φ : ℕ → sProp M) : bigSep (Finset.Ico a (b + 1)) Φ = iprop(Φ b ∗ bigSep (Finset.Ico a b) Φ) := by
  have e : Finset.Ico a (b + 1) = insert b (Finset.Ico a b) := by
    ext i; simp only [Finset.mem_Ico, Finset.mem_insert]; omega
  rw [e, bigSep_insert (by simp)]; rfl

theorem bigSep_split_sub {M : Type} [URA M] {S T : Finset ℕ} (h : T ⊆ S) (Φ : ℕ → sProp M) : bigSep S Φ = iprop(bigSep T Φ ∗ bigSep (S \ T) Φ) := by
  have e := bigSep_union (Finset.disjoint_sdiff (s := T) (t := S)) (Φ := Φ)
  rw [Finset.union_sdiff_of_subset h] at e
  exact e

theorem lv_credit (i : ℕ) : lvS (.reg creditSem) i = 6 + 4 * i := by
  unfold lvS; exact if_neg (by decide)

/-- The first two waits, for two credits each: the slots that many credits stand for are given up. -/
theorem wp_creditWait (c : Dev nD) {q n : ℕ} (hq : q < 2) (hlv : 6 + 4 * q < payLv n) {sem : Sem sig} (hs : sem = creditSem) {w : ℤ} (hw : w = ((2 : ℕ) : ℤ))
    {α : Type} {kk : PUnit → Prog (TpuEff nD τ sig (Elt F) Λ₀ .tc) α} {Q : α → sProp 𝕄} :
    iprop(CI m (creditCell c) ∗ levAts L lv ∗ credSt c q ∗ OW c n)
      ⊢ iprop((credSt (F := F) c (q + 1) ∗ grants c (2 * (q + 1)) ∗ OW c n -∗ WP c (kk ⟨⟩) Q) -∗ WP c (.op (.semWait sem w) kk) Q) := by
  subst hs hw
  unfold CI OW credSt
  rw [bigSep_Ico_pop (by omega : q < 3), if_pos hq]
  iintro ⟨⟨%κ, #HI⟩, #Hlev, ⟨%T, %hT, Hat, #Hpay, Hc, Hcs⟩, ⟨%W, HO⟩⟩ Hk
  iapply (Rounds.wp_wait 𝒱₀ ER (ringRd m) (c : Thread nD τ) none (κ := κ)
      (wpE_semWait_eq 𝒱₀ (c : Thread nD τ) none Set.univ) (Set.mem_univ _) (cr := Finsupp.single q 2) (O := owed c n) (W := W) {(SemLoc.reg creditSem, q)} (R := 0) (m := 2 * q) (T := T)
      (by rw [Util.total_single]) (image_single_subset _ q 2)) $$ [Hc HO Hat]
  · isplitr; · iexact HI
    isplitl [Hc]; · iexact Hc
    isplitl [HO]; · iexact HO
    isplitr; · iapply (mayWait c (.reg creditSem) (ix := q) (by omega) (by rw [lv_credit]; exact hlv)); iexact Hlev
    iexact Hat
  iintro %S ⟨%hS, HO, Hat, Hnew⟩
  ihave Hnew := (show bigSep (S \ T) (fun i => (ringRd (F := F) m).payload (creditCell c) 0 i) ⊢ bigSep (S \ T) (fun i => creditPay (F := F) c i) from Entails.rfl) $$ Hnew
  icases Hnew with #Hnew
  obtain ⟨h1, h2, h3⟩ := hS
  rw [duties_credit] at h2 h3
  rw [expect_credit] at h3
  have hcard : 2 * q + 1 + 1 ≤ S.card := by
    have := Finset.card_sdiff_of_subset h2
    rw [Finset.card_range] at this
    have := Finset.card_le_card h2
    rw [Finset.card_range] at this
    omega
  obtain ⟨i, hi, hge⟩ := exists_ge hcard
  ihave Hall : bigSep S (fun i => creditPay (F := F) c i) $$ []
  · rw [bigSep_split_sub h1]
    isplitr; · iexact Hpay
    iexact Hnew
  icases Hall with #Hall
  iapply Hk
  isplitl [Hat Hcs]
  · iexists S
    isplitr; · ipureintro; exact h2
    isplitl [Hat]; · rw [show 2 * (q + 1) = 2 * q + 2 by omega]; iexact Hat
    isplitr; · iexact Hall
    iexact Hcs
  isplitr
  · iapply (show bigSep S (fun i => creditPay (F := F) c i) ⊢ grants (F := F) c (2 * (q + 1)) from
      (bigSep_elim hi).trans (bigSep_subset (Finset.range_subset_range.2 (by omega))))
    iexact Hall
  · iexists (W ∪ {(SemLoc.reg creditSem, q)}); iexact HO

/-- The last wait, for the four credits left, when nothing more is owed. -/
theorem wp_creditLast (c : Dev nD) {sem : Sem sig} (hs : sem = creditSem) {w : ℤ} (hw : w = ((4 : ℕ) : ℤ))
    {α : Type} {kk : PUnit → Prog (TpuEff nD τ sig (Elt F) Λ₀ .tc) α} {Q : α → sProp 𝕄} :
    iprop(CI m (creditCell c) ∗ credSt c 2 ∗ OW c 17)
      ⊢ iprop((atPos ER (creditCell c) 1 ∅ 0 ∗ OW c 17 -∗ WP c (kk ⟨⟩) Q) -∗ WP c (.op (.semWait sem w) kk) Q) := by
  subst hs hw
  unfold CI OW credSt
  rw [bigSep_Ico_pop (by omega : 2 < 3), if_neg (by omega), owed_end]
  iintro ⟨⟨%κ, #HI⟩, ⟨%T, %hT, Hat, Hpay, Hc, Hcs⟩, ⟨%W, HO⟩⟩ Hk
  iapply (Rounds.wp_wait_rest_token 𝒱₀ ER (ringRd m) (c : Thread nD τ) none (κ := κ)
      (wpE_semWait_eq 𝒱₀ (c : Thread nD τ) none Set.univ) (Set.mem_univ _) 2 (O := 0) (W := W) (R := 0) (m := 2 * 2) (T := T)
      (by rw [expect_credit])) $$ [Hc HO Hat]
  · isplitr; · iexact HI
    isplitl [Hc]; · iexact Hc
    isplitl [HO]; · iexact HO
    isplitr; · rw [MayWait_zero]; iempintro
    iexact Hat
  iintro ⟨HO, Hat, -, -⟩
  iapply Hk
  isplitl [Hat]; · iexact Hat
  iexists (insert (SemLoc.reg creditSem, 2) W); iexact HO

/-- The elements of a rectangle, through its whole buffer. -/
theorem setOn_whole (b : Ref sig .tc) (r : Rect b.ty.shape) : (View.whole b).setOn r.set = r.set :=
  (View.set_slice _ r).symm.trans (View.set_slice_whole b r)

/-! ## The weights' column blocks -/

/-- The share of the weights that the copies into slot `b` read. -/
def wShare (b : ℕ) : PosShare TreeShare := if b % 2 = 0 then fullShare.left else fullShare.right
def wPts (c : Dev nD) (b : ℕ) (S : Finset S2048x16384.Idx) : sProp 𝕄 := ((c : Thread nD τ).loc main_arg1) ↦[S]{wShare b} wOf m c
def bPts (c : Dev nD) (b : ℕ) (f : Vec F S2x2048x512 .f32) : sProp 𝕄 := ((c : Thread nD τ).loc cc0_scratch3) ↦[wSlotSet b]{fullShare} f

/-- The credit of one copy of a column block. -/
def NW : ℕ := sig.dmaCredit .tc (Kind.tc.table .vmem) bM.view.buf S2048x512 .f32
theorem NW_pos : 0 < NW := sig.dmaCredit_pos _ _ _ _ _ (by decide)

/-- Slot `b` of the weights' staging buffer with no copy under way; with the copy of block `p` under way; with block `p` there. -/
def wIdle (c : Dev nD) (b : ℕ) : sProp 𝕄 := iprop((∃ f, bPts c b f) ∗ semVal ((c : Thread nD τ), .dma (wSem b)) 0 ∗ wPts m c b Finset.univ)
def wAir (c : Dev nD) (p : ℕ) : sProp 𝕄 :=
  iprop(Flight EC (c : Thread nD τ) (.dma (wSem p)) 0 NW iprop(bPts c p (wBuf (wOf m c) p) ∗ wPts m c p (wColSet p)) ∗ wPts m c p (Finset.univ \ wColSet p))
def wHere (c : Dev nD) (p : ℕ) : sProp 𝕄 :=
  iprop(bPts c p (wBuf (wOf m c) p) ∗ semVal ((c : Thread nD τ), .dma (wSem p)) 0 ∗ wPts m c p Finset.univ)

theorem wSem_mod (p : ℕ) : wSem (p + 2) = wSem p := Fin.ext (by show 1 + (p + 2) % 2 = 1 + p % 2; omega)
theorem wIdle_mod (c : Dev nD) (p : ℕ) : wIdle m c (p + 2) = wIdle m c p := by
  unfold wIdle bPts wPts wShare wSlotSet; rw [wSem_mod, Nat.add_mod_right]
theorem wIdle_of (c : Dev nD) (p : ℕ) : wHere m c p ⊢ wIdle m c p := by
  unfold wHere wIdle
  iintro ⟨H, Hs, Hw⟩
  isplitl [H]; · iexists _; iexact H
  isplitl [Hs] <;> iassumption

theorem wp_wStart (c : Dev nD) (p : ℕ) {sem : DmaSem sig} (hs : sem = wSem p) {o : Fin 3 → ℕ} {o' : Fin 2 → ℕ} {h h'} (ho : o = ![p % 2, 0, 0]) (ho' : o' = ![0, 512 * p])
    {hsrc : (colW o' h').view.WordExact} {hdst : (slotW o h).view.WordExact} {hsem}
    {α : Type} {kk : PUnit → Prog (TpuEff nD τ sig (Elt F) Λ₀ .tc) α} {Q : α → sProp 𝕄} :
    wIdle m c p ⊢ iprop((wAir m c p -∗ WP c (kk ⟨⟩) Q)
      -∗ WP c (.op (.enqueueDma (colW o' h') (.here (slotW o h)) (.dma sem) hsrc hdst hsem) kk) Q) := by
  subst hs
  unfold wIdle wAir bPts wPts
  iintro ⟨⟨%fd, Hd⟩, Hs, Hw⟩ Hk
  ihave Hw := (pointsTo_split_subset (Finset.subset_univ (wColSet p))).1 $$ Hw
  icases Hw with ⟨Hw, Hrest⟩
  iapply (wp_dmaLocal EC 𝒱₀ (c : Thread nD τ) none 0 NW (src := colW o' h') (dst := slotW o h) (q := wShare p) (fs := wOf m c) (Sd := wSlotSet p) (fd := fd)
      rfl NW_pos (by rw [set_slotW ho])) $$ [Hw Hd Hs]
  · isplitl [Hw]; · rw [set_colW ho']; iexact Hw
    isplitl [Hd]; · iexact Hd
    iexact Hs
  iintro Hf
  iapply Hk
  isplitl [Hf]
  · iapply (Flight_mono EC (c : Thread nD τ) (by
      rw [set_colW ho']
      exact sep_mono_left (Entails.of_eq (pointsTo_congr fun i hi => write_slotW ho ho' fd (wOf m c) hi)))) $$ Hf
  · iexact Hrest

theorem wp_wWait (c : Dev nD) {p n : ℕ} {sem : DmaSem sig} (hs : sem = wSem p) {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = NW) {α : Type} {kk : PUnit → Prog (TpuEff nD τ sig (Elt F) Λ₀ .tc) α} {Q : α → sProp 𝕄} :
    iprop(levAts L lv ∗ wAir m c p ∗ OW c n)
      ⊢ iprop((wHere m c p ∗ OW c n -∗ WP c (kk ⟨⟩) Q) -∗ WP c (.op (.waitDma2 sem srcw dstw hsrc hdst) kk) Q) := by
  subst hs
  unfold wAir wHere OW
  iintro ⟨#Hlev, ⟨Hf, Hrest⟩, ⟨%W, HO⟩⟩ Hk
  iapply (wp_waitLocalO EC 𝒱₀ (c : Thread nD τ) none 0 hN) $$ [Hf HO]
  · isplitl [Hf]; · iexact Hf
    isplitl [HO]; · iexact HO
    iapply (mayWait_low c (wSem p) (by show 1 + p % 2 < 9; omega) n); iexact Hlev
  iintro ⟨⟨Hb, Hw⟩, Hs, HO⟩
  iapply Hk
  isplitr [HO]
  · isplitl [Hb]; · iexact Hb
    isplitl [Hs]; · iexact Hs
    unfold wPts
    iapply (pointsTo_split_subset (Finset.subset_univ (wColSet p))).2
    isplitl [Hw] <;> iassumption
  · iexists _; iexact HO

theorem wp_wLoad (c : Dev nD) (p : ℕ) {o : Fin 3 → ℕ} {h} (ho : o = ![p % 2, 0, 0]) {hl}
    {α : Type} {kk : Vec F S1x2048x512 .f32 → Prog (TpuEff nD τ sig (Elt F) Λ₀ .tc) α} {Q : α → sProp 𝕄} :
    wHere m c p ⊢ iprop((wHere m c p -∗ WP c (kk (wBlk (wOf m c) p)) Q)
      -∗ WP c (.op (.load bM (Rect.unit (s := S2x2048x512) o S1x2048x512.size h).toLoadRect hl) kk) Q) := by
  unfold wHere bPts
  iintro ⟨Hb, Hs, Hw⟩ Hk
  iapply (wp_load 𝒱₀ (c : Thread nD τ) none Set.univ (m := bM) (S := wSlotSet p) ((setOn_whole cc0_scratch3 _).trans (unit_slotW ho)).subset) $$ Hb
  iintro Hb
  rw [read_slotW ho]
  iapply Hk
  isplitl [Hb]; · iexact Hb
  isplitl [Hs] <;> iassumption

/-! ## The logits of a chunk, column block by column block -/

/-- A send slot whose column blocks before `p` hold chunk `k`'s logits. -/
def sendUpTo (c : Dev nD) (k p : ℕ) : sProp 𝕄 :=
  iprop(∃ f, ⌜∀ i ∈ slotSet k, (i 2).val < 512 * p → f i = lgBuf m c k i⌝ ∗ sendPts c k fullShare f)

theorem sendUpTo_zero (c : Dev nD) (k : ℕ) : iprop(∃ f, sendPts c k fullShare f) ⊢ sendUpTo m c k 0 := by
  unfold sendUpTo
  iintro ⟨%f, H⟩
  iexists f
  isplitr; · ipureintro; exact fun i _ h => absurd h (by omega)
  iexact H
theorem sendUpTo_all (c : Dev nD) (k : ℕ) : sendUpTo m c k 32 ⊢ sendPts c k fullShare (lgBuf m c k) := by
  unfold sendUpTo
  iintro ⟨%f, %hf, H⟩
  unfold sendPts
  iapply (Entails.of_eq (pointsTo_congr fun i hi => hf i hi (by have : (i 2).val < 16384 := (i 2).isLt; omega))) $$ H

theorem wp_lgLoad (c : Dev nD) {k p q : ℕ} {o : Fin 3 → ℕ} {h} (ho : o = ![k % 4, 0, 512 * p]) {hl}
    {α : Type} {kk : Vec F S1x128x512 .bf16 → Prog (TpuEff nD τ sig (Elt F) Λ₀ .tc) α} {Q : α → sProp 𝕄} :
    sendUpTo m c k q ⊢ iprop((sendUpTo m c k q -∗ ∀ v, WP c (kk v) Q)
      -∗ WP c (.op (.load sM (rectC o h).toLoadRect hl) kk) Q) := by
  unfold sendUpTo sendPts
  iintro ⟨%f, %hf, H⟩ Hk
  iapply (wp_load 𝒱₀ (c : Thread nD τ) none Set.univ (m := sM) (S := slotSet k) (f := f) ((setOn_whole cc0_scratch0 _).subset.trans (rectC_sub ho))) $$ H
  iintro H
  iapply Hk $$ [H]
  iexists f
  isplitr; · ipureintro; exact hf
  iexact H

theorem wp_lgStore (c : Dev nD) {k p : ℕ} {o : Fin 3 → ℕ} {h} (ho : o = ![k % 4, 0, 512 * p]) {v : Vec F S1x128x512 .bf16}
    (hv : v = colPay (k0_pay14 (xChunk (xOf m c) k)) (wBlk (wOf m c) p)) {hx hm}
    {α : Type} {kk : PUnit → Prog (TpuEff nD τ sig (Elt F) Λ₀ .tc) α} {Q : α → sProp 𝕄} :
    sendUpTo m c k p ⊢ iprop((sendUpTo m c k (p + 1) -∗ WP c (kk ⟨⟩) Q)
      -∗ WP c (.op (.store sM (rectC o h) v Finset.univ hx hm) kk) Q) := by
  subst hv
  unfold sendUpTo sendPts
  iintro ⟨%f, %hf, H⟩ Hk
  iapply (wp_store 𝒱₀ (c : Thread nD τ) none Set.univ (m := sM) (r := rectC o h) (Mk := Finset.univ) (S := slotSet k) (f := f) ((View.set_slice_whole cc0_scratch0 _).subset.trans (rectC_sub ho))) $$ H
  iintro H
  iapply Hk
  iexists ((sM.access (rectC o h)).write (Elt F) f (colPay (k0_pay14 (xChunk (xOf m c) k)) (wBlk (wOf m c) p)) Finset.univ)
  isplitr; · ipureintro; exact fun i hi hlt => store_col m ho f hf hi hlt
  iexact H

end Cert.SoftmaxProof
-- ==== Proof.Outs.lean ====
/-
The output's blocks and their copies to the result, and the loads and stores of whole slots.
-/
module

public import proofs.«01_k».proof.Proof.Copies
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The result's blocks -/

/-- What device `c` leaves in the result. -/
def res (c : Dev nD) : Vec F S1024x32768 .bf16 := outBuf c (xOf m c) (wOf m c) (wOf m (peer c)) (xOf m (peer c))
/-- The result with the row blocks before `k` done. -/
def mix (c : Dev nD) (k : ℕ) : Vec F S1024x32768 .bf16 := fun i => if (i 0).val < 128 * k then res m c i else m ((c : Thread nD τ).loc main_v1) i
/-- The block of chunk `k` that output slot `b` holds. -/
def blk (c : Dev nD) (k b : ℕ) : Vec F S1x128x16384 .bf16 := outBlk (xOf m c) (wOf m c) (wOf m (peer c)) (xOf m (peer c)) k b

def oPts (c : Dev nD) (b : ℕ) (f : Vec F S2x128x16384 .bf16) : sProp 𝕄 := ((c : Thread nD τ).loc cc0_scratch2) ↦[oSlotSet b]{fullShare} f
def oAny (c : Dev nD) (b : ℕ) : sProp 𝕄 := iprop(∃ f, oPts (F := F) c b f)
def vPts (c : Dev nD) (S : Finset S1024x32768.Idx) (f : Vec F S1024x32768 .bf16) : sProp 𝕄 := ((c : Thread nD τ).loc main_v1) ↦[S]{fullShare} f

theorem oAny_of (c : Dev nD) (b : ℕ) (f) : oPts (F := F) c b f ⊢ oAny c b := by
  unfold oAny
  iintro H
  iexists f
  iexact H

/-- The credit of one copy of a block of the result. -/
def NO : ℕ := sig.dmaCredit .tc (Kind.tc.table .hbm) oHM.view.buf S128x16384 .bf16
theorem NO_pos : 0 < NO := sig.dmaCredit_pos _ _ _ _ _ (by decide)

def oSv (c : Dev nD) (b : ℕ) : sProp 𝕄 := semVal ((c : Thread nD τ), .dma (oSem b)) 0

/-- The copy of chunk `k`'s half `b` to the result, under way. -/
def outAir (c : Dev nD) (k b : ℕ) : sProp 𝕄 :=
  Flight EC (c : Thread nD τ) (.dma (oSem b)) 0 NO iprop(vPts c (outSet k (half c b)) (res m c) ∗ oPts c b (oBuf (blk m c k b)))

theorem half_cases (c : Dev nD) : (half c 0 = 0 ∧ half c 1 = 1) ∨ (half c 0 = 1 ∧ half c 1 = 0) := by
  have h : c.val < 8 := c.isLt
  unfold half
  rw [if_pos rfl, if_neg (by decide)]
  omega

/-- On the block written for half `b`, the result is that block. -/
theorem res_eq (c : Dev nD) {k b : ℕ} (hb : b < 2) {i : S1024x32768.Idx} (hi : i ∈ outSet k (half c b)) :
    blk m c k b (ix3 (0 : Fin 1) (⟨(i 0).val % 128, Nat.mod_lt _ (by decide)⟩ : Fin 128) (⟨(i 1).val % 16384, Nat.mod_lt _ (by decide)⟩ : Fin 16384)) = res m c i := by
  rw [mem_outSet] at hi
  have hh : half c 0 = c.val / 4 := if_pos rfl
  have hb' : (if (i 1).val / 16384 = c.val / 4 then 0 else 1) = b := by
    rw [hi.2]
    rcases half_cases c with ⟨h0, h1⟩ | ⟨h0, h1⟩ <;> interval_cases b <;> simp only [h0, h1, ← hh] <;> decide
  unfold res outBuf blk
  rw [hi.1, hb']

theorem wp_outStart (c : Dev nD) {k b : ℕ} (hb : b < 2) {sem : DmaSem sig} (hs : sem = oSem b) {o : Fin 3 → ℕ} {o' : Fin 2 → ℕ} {h h'} (ho : o = ![b % 2, 0, 0]) (ho' : o' = ![128 * k, 16384 * half c b])
    {hsrc : (slot2 o h).view.WordExact} {hdst : (blkO o' h').view.WordExact} {hsem} {f : Vec F S1024x32768 .bf16}
    {α : Type} {kk : PUnit → Prog (TpuEff nD τ sig (Elt F) Λ₀ .tc) α} {Q : α → sProp 𝕄} :
    iprop(oPts c b (oBuf (blk m c k b)) ∗ oSv (F := F) c b ∗ vPts c (outSet k (half c b)) f)
      ⊢ iprop((outAir m c k b -∗ WP c (kk ⟨⟩) Q) -∗ WP c (.op (.enqueueDma (slot2 o h) (.here (blkO o' h')) (.dma sem) hsrc hdst hsem) kk) Q) := by
  subst hs
  unfold outAir oPts vPts oSv
  iintro ⟨Ho, Hs, Hv⟩ Hk
  iapply (wp_dmaLocal EC 𝒱₀ (c : Thread nD τ) none 0 NO (src := slot2 o h) (dst := blkO o' h') (q := fullShare) (fs := oBuf (blk m c k b)) (Sd := outSet k (half c b)) (fd := f)
      rfl NO_pos (by rw [set_blkO ho'])) $$ [Ho Hs Hv]
  · isplitl [Ho]; · rw [set_slot2 ho]; iexact Ho
    isplitl [Hv]; · iexact Hv
    iexact Hs
  iintro Hf
  iapply Hk
  iapply (Flight_mono EC (c : Thread nD τ) (by
    rw [set_slot2 ho]
    exact sep_mono_left (Entails.of_eq (pointsTo_congr fun i hi => (write_blkO ho ho' f (blk m c k b) hi).trans (res_eq m c hb hi))))) $$ Hf

theorem wp_outWait (c : Dev nD) {k b n : ℕ} {sem : DmaSem sig} (hs : sem = oSem b) {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = NO) {α : Type} {kk : PUnit → Prog (TpuEff nD τ sig (Elt F) Λ₀ .tc) α} {Q : α → sProp 𝕄} :
    iprop(levAts L lv ∗ outAir m c k b ∗ OW c n)
      ⊢ iprop((vPts c (outSet k (half c b)) (res m c) ∗ oAny (F := F) c b ∗ oSv (F := F) c b ∗ OW c n -∗ WP c (kk ⟨⟩) Q)
        -∗ WP c (.op (.waitDma2 sem srcw dstw hsrc hdst) kk) Q) := by
  subst hs
  unfold outAir OW oSv
  iintro ⟨#Hlev, Hf, ⟨%W, HO⟩⟩ Hk
  iapply (wp_waitLocalO EC 𝒱₀ (c : Thread nD τ) none 0 hN) $$ [Hf HO]
  · isplitl [Hf]; · iexact Hf
    isplitl [HO]; · iexact HO
    iapply (mayWait_low c (oSem b) (by show 3 + b % 2 < 9; omega) n); iexact Hlev
  iintro ⟨⟨Hv, Ho⟩, Hs, HO⟩
  iapply Hk
  isplitl [Hv]; · iexact Hv
  isplitl [Ho]; · iapply (oAny_of c b _); iexact Ho
  isplitl [Hs]; · iexact Hs
  iexists _; iexact HO

/-- The output with nothing under way and the row blocks before `k` done; with chunk `k`'s two copies under way. -/
def outIdle (c : Dev nD) (k : ℕ) : sProp 𝕄 :=
  iprop(oAny (F := F) c 0 ∗ oAny (F := F) c 1 ∗ oSv (F := F) c 0 ∗ oSv (F := F) c 1 ∗ vPts c Finset.univ (mix m c k))
def outBusy (c : Dev nD) (k : ℕ) : sProp 𝕄 :=
  iprop(outAir m c k 0 ∗ outAir m c k 1 ∗ vPts c ((Finset.univ \ outSet k (half c 0)) \ outSet k (half c 1)) (mix m c k))

theorem sub_rest (c : Dev nD) (k : ℕ) : outSet k (half c 1) ⊆ Finset.univ \ outSet k (half c 0) := fun i hi => by
  rw [Finset.mem_sdiff]
  refine ⟨Finset.mem_univ _, fun h => ?_⟩
  rw [mem_outSet] at hi h
  rcases half_cases c with ⟨h0, h1⟩ | ⟨h0, h1⟩ <;> omega

theorem v_split (c : Dev nD) (k : ℕ) (f : Vec F S1024x32768 .bf16) :
    vPts c Finset.univ f ⊣⊢ iprop(vPts c (outSet k (half c 0)) f ∗ vPts c (outSet k (half c 1)) f ∗ vPts c ((Finset.univ \ outSet k (half c 0)) \ outSet k (half c 1)) f) := by
  unfold vPts
  exact ⟨(pointsTo_split_subset (Finset.subset_univ _)).1.trans (sep_mono_right (pointsTo_split_subset (sub_rest c k)).1),
    (sep_mono_right (pointsTo_split_subset (sub_rest c k)).2).trans (pointsTo_split_subset (Finset.subset_univ _)).2⟩

/-- The copies of chunk `k` done, the result is right on its rows too. -/
theorem v_join (c : Dev nD) (k : ℕ) :
    iprop(vPts c (outSet k (half c 0)) (res m c) ∗ vPts c (outSet k (half c 1)) (res m c) ∗ vPts c ((Finset.univ \ outSet k (half c 0)) \ outSet k (half c 1)) (mix m c k))
      ⊢ vPts c Finset.univ (mix m c (k + 1)) := by
  have hin : ∀ b, ∀ i ∈ outSet k (half c b), res m c i = mix m c (k + 1) i := fun b i hi => by
    rw [mem_outSet] at hi
    exact (if_pos (by have := hi.1; omega)).symm
  have hout : ∀ i ∈ (Finset.univ \ outSet k (half c 0)) \ outSet k (half c 1), mix m c k i = mix m c (k + 1) i := fun i hi => by
    rw [Finset.mem_sdiff, Finset.mem_sdiff, mem_outSet, mem_outSet] at hi
    have h1 : (i 1).val < 32768 := (i 1).isLt
    have hne : (i 0).val / 128 ≠ k := fun he => by
      rcases half_cases c with ⟨h0, h1⟩ | ⟨h0, h1⟩ <;> omega
    show (if _ then _ else _) = if _ then _ else _
    by_cases hlt : (i 0).val < 128 * k
    · rw [if_pos hlt, if_pos (by omega)]
    · rw [if_neg hlt, if_neg (by omega)]
  refine BIBase.Entails.trans ?_ (v_split c k (mix m c (k + 1))).2
  unfold vPts
  exact BIClass.sep_mono (Entails.of_eq (pointsTo_congr (hin 0))) (BIClass.sep_mono (Entails.of_eq (pointsTo_congr (hin 1))) (Entails.of_eq (pointsTo_congr hout)))

/-- Both copies of a chunk's output started. -/
theorem wp_outStart2 (c : Dev nD) {k : ℕ} {sem sem' : DmaSem sig} (hs : sem = oSem 0) (hs' : sem' = oSem 1)
    {o₁ o₂ : Fin 3 → ℕ} {o₁' o₂' : Fin 2 → ℕ} {h₁ h₁' h₂ h₂'} (ho₁ : o₁ = ![0 % 2, 0, 0]) (ho₁' : o₁' = ![128 * k, 16384 * half c 0]) (ho₂ : o₂ = ![1 % 2, 0, 0]) (ho₂' : o₂' = ![128 * k, 16384 * half c 1])
    {hsrc₁ : (slot2 o₁ h₁).view.WordExact} {hdst₁ : (blkO o₁' h₁').view.WordExact} {hsem₁} {hsrc₂ : (slot2 o₂ h₂).view.WordExact} {hdst₂ : (blkO o₂' h₂').view.WordExact} {hsem₂}
    {α : Type} {kk : PUnit → Prog (TpuEff nD τ sig (Elt F) Λ₀ .tc) α} {Q : α → sProp 𝕄} :
    iprop(oPts c 0 (oBuf (blk m c k 0)) ∗ oPts c 1 (oBuf (blk m c k 1)) ∗ oSv (F := F) c 0 ∗ oSv (F := F) c 1 ∗ vPts c Finset.univ (mix m c k))
      ⊢ iprop((outBusy m c k -∗ WP c (kk ⟨⟩) Q)
        -∗ WP c (.op (.enqueueDma (slot2 o₁ h₁) (.here (blkO o₁' h₁')) (.dma sem) hsrc₁ hdst₁ hsem₁) fun _ =>
            .op (.enqueueDma (slot2 o₂ h₂) (.here (blkO o₂' h₂')) (.dma sem') hsrc₂ hdst₂ hsem₂) kk) Q) := by
  iintro ⟨H0, H1, Hs0, Hs1, Hv⟩ Hk
  ihave Hv := (v_split c k (mix m c k)).1 $$ Hv
  icases Hv with ⟨Hv0, Hv1, Hv⟩
  iapply (wp_outStart m c (k := k) (b := 0) (by decide) hs ho₁ ho₁') $$ [H0 Hs0 Hv0]
  · isplitl [H0]; · iexact H0
    isplitl [Hs0] <;> iassumption
  iintro Ha0
  iapply (wp_outStart m c (k := k) (b := 1) (by decide) hs' ho₂ ho₂') $$ [H1 Hs1 Hv1]
  · isplitl [H1]; · iexact H1
    isplitl [Hs1] <;> iassumption
  iintro Ha1
  iapply Hk
  unfold outBusy
  isplitl [Ha0]; · iexact Ha0
  isplitl [Ha1] <;> iassumption

/-- Both copies of a chunk's output awaited. -/
theorem wp_outWait2 (c : Dev nD) {k n : ℕ} {sem sem' : DmaSem sig} (hs : sem = oSem 0) (hs' : sem' = oSem 1)
    {sp₁ sp₁' sp₂ sp₂' : Space} {s₁ s₁' s₂ s₂' : Shape} {e₁ e₁' e₂ e₂' : EltTy} {κ₁ κ₂ : Kind}
    {src₁ : Memref sig .tc sp₁' s₁' e₁'} {dst₁ : Memref sig κ₁ sp₁ s₁ e₁} {hsrc₁ : src₁.view.WordExact} {hdst₁ : dst₁.view.WordExact} (hN₁ : dst₁.view.dmaCredit = NO)
    {src₂ : Memref sig .tc sp₂' s₂' e₂'} {dst₂ : Memref sig κ₂ sp₂ s₂ e₂} {hsrc₂ : src₂.view.WordExact} {hdst₂ : dst₂.view.WordExact} (hN₂ : dst₂.view.dmaCredit = NO)
    {α : Type} {kk : PUnit → Prog (TpuEff nD τ sig (Elt F) Λ₀ .tc) α} {Q : α → sProp 𝕄} :
    iprop(levAts L lv ∗ outBusy m c k ∗ OW c n)
      ⊢ iprop((outIdle m c (k + 1) ∗ OW c n -∗ WP c (kk ⟨⟩) Q)
        -∗ WP c (.op (.waitDma2 sem src₁ dst₁ hsrc₁ hdst₁) fun _ => .op (.waitDma2 sem' src₂ dst₂ hsrc₂ hdst₂) kk) Q) := by
  unfold outBusy
  iintro ⟨#Hlev, ⟨Ha0, Ha1, Hv⟩, HO⟩ Hk
  iapply (wp_outWait m c (k := k) (b := 0) hs hN₁) $$ [Ha0 HO]
  · isplitr; · iexact Hlev
    isplitl [Ha0] <;> iassumption
  iintro ⟨Hv0, Ho0, Hs0, HO⟩
  iapply (wp_outWait m c (k := k) (b := 1) hs' hN₂) $$ [Ha1 HO]
  · isplitr; · iexact Hlev
    isplitl [Ha1] <;> iassumption
  iintro ⟨Hv1, Ho1, Hs1, HO⟩
  iapply Hk
  unfold outIdle
  isplitr [HO]
  · isplitl [Ho0]; · iexact Ho0
    isplitl [Ho1]; · iexact Ho1
    isplitl [Hs0]; · iexact Hs0
    isplitl [Hs1]; · iexact Hs1
    iapply (v_join m c k)
    isplitl [Hv0]; · iexact Hv0
    isplitl [Hv1] <;> iassumption
  · iexact HO

/-! ## Loads and stores of whole slots -/

theorem wp_sLoad (c : Dev nD) {k : ℕ} {q : PosShare TreeShare} {o : Fin 3 → ℕ} {h} (ho : o = ![k % 4, 0, 0]) {hl}
    {α : Type} {kk : Vec F S1x128x16384 .bf16 → Prog (TpuEff nD τ sig (Elt F) Λ₀ .tc) α} {Q : α → sProp 𝕄} :
    sendPts c k q (lgBuf m c k) ⊢ iprop((sendPts c k q (lgBuf m c k) -∗ WP c (kk (lg (xOf m c) (wOf m c) k)) Q)
      -∗ WP c (.op (.load sM (Rect.unit (s := S4x128x16384) o S1x128x16384.size h).toLoadRect hl) kk) Q) := by
  unfold sendPts
  rw [← read_slot4s m (h := h) ho]
  exact wp_load 𝒱₀ (c : Thread nD τ) none Set.univ (m := sM) (S := slotSet k) ((setOn_whole cc0_scratch0 _).trans (unit_slot4 ho)).subset
theorem wp_rLoad (c : Dev nD) {k : ℕ} {o : Fin 3 → ℕ} {h} (ho : o = ![k % 4, 0, 0]) {hl}
    {α : Type} {kk : Vec F S1x128x16384 .bf16 → Prog (TpuEff nD τ sig (Elt F) Λ₀ .tc) α} {Q : α → sProp 𝕄} :
    recvPts c k (lgBuf m (peer c) k) ⊢ iprop((recvPts c k (lgBuf m (peer c) k) -∗ WP c (kk (lg (xOf m (peer c)) (wOf m (peer c)) k)) Q)
      -∗ WP c (.op (.load rM (Rect.unit (s := S4x128x16384) o S1x128x16384.size h).toLoadRect hl) kk) Q) := by
  unfold recvPts
  rw [← read_slot4r m (h := h) ho]
  exact wp_load 𝒱₀ (c : Thread nD τ) none Set.univ (m := rM) (S := slotSet k) ((setOn_whole cc0_scratch1 _).trans (unit_slot4 ho)).subset
theorem wp_oLoad (c : Dev nD) {b : ℕ} {v : Vec F S1x128x16384 .bf16} {o : Fin 3 → ℕ} {h} (ho : o = ![b % 2, 0, 0]) {hl}
    {α : Type} {kk : Vec F S1x128x16384 .bf16 → Prog (TpuEff nD τ sig (Elt F) Λ₀ .tc) α} {Q : α → sProp 𝕄} :
    oPts c b (oBuf v) ⊢ iprop((oPts c b (oBuf v) -∗ WP c (kk v) Q)
      -∗ WP c (.op (.load oM (Rect.unit (s := S2x128x16384) o S1x128x16384.size h).toLoadRect hl) kk) Q) := by
  unfold oPts
  iintro H Hk
  iapply (wp_load 𝒱₀ (c : Thread nD τ) none Set.univ (m := oM) (S := oSlotSet b) ((setOn_whole cc0_scratch2 _).trans (unit_slot2 ho)).subset) $$ H
  iintro H
  rw [read_slot2 ho]
  iapply Hk
  iexact H
theorem wp_oPeek (c : Dev nD) {b : ℕ} {o : Fin 3 → ℕ} {h} (ho : o = ![b % 2, 0, 0]) {hl}
    {α : Type} {kk : Vec F S1x128x16384 .bf16 → Prog (TpuEff nD τ sig (Elt F) Λ₀ .tc) α} {Q : α → sProp 𝕄} :
    oAny (F := F) c b ⊢ iprop((oAny (F := F) c b -∗ ∀ v, WP c (kk v) Q)
      -∗ WP c (.op (.load oM (Rect.unit (s := S2x128x16384) o S1x128x16384.size h).toLoadRect hl) kk) Q) := by
  unfold oAny oPts
  iintro ⟨%f, H⟩ Hk
  iapply (wp_load 𝒱₀ (c : Thread nD τ) none Set.univ (m := oM) (S := oSlotSet b) (f := f) ((setOn_whole cc0_scratch2 _).trans (unit_slot2 ho)).subset) $$ H
  iintro H
  iapply Hk $$ [H]
  iexists f; iexact H
theorem wp_oStore (c : Dev nD) {b : ℕ} {v : Vec F S1x128x16384 .bf16} {o : Fin 3 → ℕ} {h} (ho : o = ![b % 2, 0, 0]) {hx hm}
    {α : Type} {kk : PUnit → Prog (TpuEff nD τ sig (Elt F) Λ₀ .tc) α} {Q : α → sProp 𝕄} :
    oAny (F := F) c b ⊢ iprop((oPts c b (oBuf v) -∗ WP c (kk ⟨⟩) Q)
      -∗ WP c (.op (.store oM (Rect.unit (s := S2x128x16384) o S1x128x16384.size h) v Finset.univ hx hm) kk) Q) := by
  unfold oAny oPts
  iintro ⟨%f, H⟩ Hk
  iapply (wp_store 𝒱₀ (c : Thread nD τ) none Set.univ (m := oM) (r := Rect.unit (s := S2x128x16384) o S1x128x16384.size h) (Mk := Finset.univ) (S := oSlotSet b) (f := f)
    ((View.set_slice_whole cc0_scratch2 _).trans (unit_slot2 ho)).subset) $$ H
  iintro H
  iapply Hk
  iapply (Entails.of_eq (pointsTo_congr fun i hi => store_slot2 ho f v hi)) $$ H

def xPts (c : Dev nD) : sProp 𝕄 := ((c : Thread nD τ).loc cc0_stg0_0) ↦[Finset.univ]{fullShare} xOf m c
theorem wp_xLoad (c : Dev nD) {k : ℕ} {o : Fin 2 → ℕ} {h} (ho : o = ![128 * k, 0]) {hl}
    {α : Type} {kk : Vec F S128x2048 .bf16 → Prog (TpuEff nD τ sig (Elt F) Λ₀ .tc) α} {Q : α → sProp 𝕄} :
    xPts m c ⊢ iprop((xPts m c -∗ WP c (kk (xChunk (xOf m c) k)) Q)
      -∗ WP c (.op (.load xM (Rect.unit (s := S1024x2048) o S128x2048.size h).toLoadRect hl) kk) Q) := by
  unfold xPts
  rw [← read_xM (h := h) ho (xOf m c)]
  exact wp_load 𝒱₀ (c : Thread nD τ) none Set.univ (m := xM) (S := Finset.univ) (Finset.subset_univ _)

end Cert.SoftmaxProof
-- ==== Proof.Steps.lean ====
/-
The runs of operations that the kernel body repeats: a column block of the product, and a chunk's output.
-/
module

public import proofs.«01_k».proof.Proof.Outs
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## One column block of the product -/

/-- Column block `p`: its weights awaited, and multiplied with the two row blocks of the trip into their send slots. -/
theorem wp_col (c : Dev nD) {k k' n : ℕ} (p : ℕ) {sem : DmaSem sig} (hs : sem = wSem p) {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = NW)
    {o₀ o₁ : Fin 3 → ℕ} {h₀ h₁} (ho₀ : o₀ = ![p % 2, 0, 0]) (ho₁ : o₁ = ![p % 2, 0, 0]) {hl₀ hl₁}
    {u u' v v' : Fin 3 → ℕ} {hu hu' hv hv'} (hou : u = ![k % 4, 0, 512 * p]) (hou' : u' = ![k % 4, 0, 512 * p]) (hov : v = ![k' % 4, 0, 512 * p]) (hov' : v' = ![k' % 4, 0, 512 * p])
    {hlu hlv hxu hmu hxv hmv} {a a' : FVec F S128x2048 .f32} (ha : a = k0_pay14 (xChunk (xOf m c) k)) (ha' : a' = k0_pay14 (xChunk (xOf m c) k'))
    {α : Type} {kk : PUnit → Prog (TpuEff nD τ sig (Elt F) Λ₀ .tc) α} {Q : α → sProp 𝕄} :
    iprop(levAts L lv ∗ wAir m c p ∗ sendUpTo m c k p ∗ sendUpTo m c k' p ∗ OW c n)
      ⊢ iprop((wIdle m c p ∗ sendUpTo m c k (p + 1) ∗ sendUpTo m c k' (p + 1) ∗ OW c n -∗ WP c (kk ⟨⟩) Q)
        -∗ WP c (.op (.waitDma2 sem srcw dstw hsrc hdst) fun _ =>
          .op (.load bM (Rect.unit (s := S2x2048x512) o₀ S1x2048x512.size h₀).toLoadRect hl₀) fun w =>
          .op (.load sM (rectC u hu).toLoadRect hlu) fun _ =>
          .op (.store sM (rectC u' hu') (colPay a w) Finset.univ hxu hmu) fun _ =>
          .op (.load bM (Rect.unit (s := S2x2048x512) o₁ S1x2048x512.size h₁).toLoadRect hl₁) fun w' =>
          .op (.load sM (rectC v hv).toLoadRect hlv) fun _ =>
          .op (.store sM (rectC v' hv') (colPay a' w') Finset.univ hxv hmv) kk) Q) := by
  iintro ⟨#Hlev, Ha, Hu, Hv, HO⟩ Hk
  iapply (wp_wWait m c hs hN) $$ [Ha HO]
  · isplitr; · iexact Hlev
    isplitl [Ha] <;> iassumption
  iintro ⟨Hw, HO⟩
  iapply (wp_wLoad m c p ho₀) $$ Hw; iintro Hw
  iapply (wp_lgLoad m c hou) $$ Hu; iintro Hu %_
  iapply (wp_lgStore m c hou' (by rw [ha])) $$ Hu; iintro Hu
  iapply (wp_wLoad m c p ho₁) $$ Hw; iintro Hw
  iapply (wp_lgLoad m c hov) $$ Hv; iintro Hv %_
  iapply (wp_lgStore m c hov' (by rw [ha'])) $$ Hv; iintro Hv
  iapply Hk
  isplitl [Hw]; · iapply (wIdle_of m c p); iexact Hw
  isplitl [Hu]; · iexact Hu
  isplitl [Hv] <;> iassumption

/-- A column block with the next copy into the same slot of the weights' staging buffer started after it. -/
theorem wp_colNext (c : Dev nD) {k k' n : ℕ} (p : ℕ) {sem sem' : DmaSem sig} (hs : sem = wSem p) (hs' : sem' = wSem p) {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = NW)
    {o₀ o₁ o₂ : Fin 3 → ℕ} {h₀ h₁ h₂} (ho₀ : o₀ = ![p % 2, 0, 0]) (ho₁ : o₁ = ![p % 2, 0, 0]) (ho₂ : o₂ = ![p % 2, 0, 0]) {hl₀ hl₁}
    {u u' v v' : Fin 3 → ℕ} {hu hu' hv hv'} (hou : u = ![k % 4, 0, 512 * p]) (hou' : u' = ![k % 4, 0, 512 * p]) (hov : v = ![k' % 4, 0, 512 * p]) (hov' : v' = ![k' % 4, 0, 512 * p])
    {hlu hlv hxu hmu hxv hmv} {a a' : FVec F S128x2048 .f32} (ha : a = k0_pay14 (xChunk (xOf m c) k)) (ha' : a' = k0_pay14 (xChunk (xOf m c) k'))
    {o₃ : Fin 2 → ℕ} {h₃} (ho₃ : o₃ = ![0, 512 * (p + 2)]) {hsrc' : (colW o₃ h₃).view.WordExact} {hdst' : (slotW o₂ h₂).view.WordExact} {hsem}
    {α : Type} {kk : PUnit → Prog (TpuEff nD τ sig (Elt F) Λ₀ .tc) α} {Q : α → sProp 𝕄} :
    iprop(levAts L lv ∗ wAir m c p ∗ sendUpTo m c k p ∗ sendUpTo m c k' p ∗ OW c n)
      ⊢ iprop((wAir m c (p + 2) ∗ sendUpTo m c k (p + 1) ∗ sendUpTo m c k' (p + 1) ∗ OW c n -∗ WP c (kk ⟨⟩) Q)
        -∗ WP c (.op (.waitDma2 sem srcw dstw hsrc hdst) fun _ =>
          .op (.load bM (Rect.unit (s := S2x2048x512) o₀ S1x2048x512.size h₀).toLoadRect hl₀) fun w =>
          .op (.load sM (rectC u hu).toLoadRect hlu) fun _ =>
          .op (.store sM (rectC u' hu') (colPay a w) Finset.univ hxu hmu) fun _ =>
          .op (.load bM (Rect.unit (s := S2x2048x512) o₁ S1x2048x512.size h₁).toLoadRect hl₁) fun w' =>
          .op (.load sM (rectC v hv).toLoadRect hlv) fun _ =>
          .op (.store sM (rectC v' hv') (colPay a' w') Finset.univ hxv hmv) fun _ =>
          .op (.enqueueDma (colW o₃ h₃) (.here (slotW o₂ h₂)) (.dma sem') hsrc' hdst' hsem) kk) Q) := by
  iintro ⟨#Hlev, Ha, Hu, Hv, HO⟩ Hk
  iapply (wp_col m c p hs hN ho₀ ho₁ hou hou' hov hov' ha ha') $$ [Ha Hu Hv HO]
  · isplitr; · iexact Hlev
    isplitl [Ha]; · iexact Ha
    isplitl [Hu]; · iexact Hu
    isplitl [Hv] <;> iassumption
  iintro ⟨Hw, Hu, Hv, HO⟩
  ihave Hw := (Entails.of_eq (wIdle_mod m c p).symm) $$ Hw
  iapply (wp_wStart m c (p + 2) (hs'.trans (wSem_mod p).symm) (ho₂.trans (by rw [Nat.add_mod_right])) ho₃) $$ Hw
  iintro Ha
  iapply Hk
  isplitl [Ha]; · iexact Ha
  isplitl [Hu]; · iexact Hu
  isplitl [Hv] <;> iassumption

/-! ## The output of one chunk from its two slots of logits -/

/-- The exponentials of the own logits and of the received ones put in the output's staging buffer, then divided by their sum. -/
theorem wp_softmax (c : Dev nD) {k : ℕ} {o' : Fin 3 → ℕ} {h'} (ho' : o' = ![k % 4, 0, 0])
    {a b : Fin 3 → ℕ} {ha hb} (hoa : a = ![0 % 2, 0, 0]) (hob : b = ![1 % 2, 0, 0])
    {hlo' hl₁ hl₂ hl₃ hl₄ hl₅ hl₆ hl₇ hl₈ hx₁ hm₁ hx₂ hm₂ hx₃ hm₃ hx₄ hm₄}
    {α : Type} {kk : PUnit → Prog (TpuEff nD τ sig (Elt F) Λ₀ .tc) α} {Q : α → sProp 𝕄} :
    iprop(recvPts c k (lgBuf m (peer c) k) ∗ oAny (F := F) c 0 ∗ oAny (F := F) c 1)
      ⊢ iprop((recvPts c k (lgBuf m (peer c) k) ∗ oPts c 0 (oBuf (blk m c k 0)) ∗ oPts c 1 (oBuf (blk m c k 1)) -∗ WP c (kk ⟨⟩) Q)
        -∗ WP c (.op (.load oM (Rect.unit (s := S2x128x16384) a S1x128x16384.size ha).toLoadRect hl₁) fun _ =>
          .op (.store oM (Rect.unit (s := S2x128x16384) a S1x128x16384.size ha) (k0_pay3 (lg (xOf m c) (wOf m c) k)) Finset.univ hx₁ hm₁) fun _ =>
          .op (.load rM (Rect.unit (s := S4x128x16384) o' S1x128x16384.size h').toLoadRect hlo') fun w =>
          .op (.load oM (Rect.unit (s := S2x128x16384) b S1x128x16384.size hb).toLoadRect hl₂) fun _ =>
          .op (.store oM (Rect.unit (s := S2x128x16384) b S1x128x16384.size hb) (k0_pay3 w) Finset.univ hx₂ hm₂) fun _ =>
          .op (.load oM (Rect.unit (s := S2x128x16384) a S1x128x16384.size ha).toLoadRect hl₃) fun e₁ =>
          .op (.load oM (Rect.unit (s := S2x128x16384) b S1x128x16384.size hb).toLoadRect hl₄) fun e₂ =>
          .op (.load oM (Rect.unit (s := S2x128x16384) a S1x128x16384.size ha).toLoadRect hl₅) fun e₃ =>
          .op (.load oM (Rect.unit (s := S2x128x16384) a S1x128x16384.size ha).toLoadRect hl₆) fun _ =>
          .op (.store oM (Rect.unit (s := S2x128x16384) a S1x128x16384.size ha) (k0_pay5 e₁ e₂ e₃) Finset.univ hx₃ hm₃) fun _ =>
          .op (.load oM (Rect.unit (s := S2x128x16384) b S1x128x16384.size hb).toLoadRect hl₇) fun e₄ =>
          .op (.load oM (Rect.unit (s := S2x128x16384) b S1x128x16384.size hb).toLoadRect hl₈) fun _ =>
          .op (.store oM (Rect.unit (s := S2x128x16384) b S1x128x16384.size hb) (k0_pay6 (k0_pay4 e₁ e₂) e₄) Finset.univ hx₄ hm₄) kk) Q) := by
  iintro ⟨Hr, H0, H1⟩ Hk
  iapply (wp_oPeek c (b := 0) hoa) $$ H0; iintro H0 %_
  iapply (wp_oStore c (b := 0) hoa) $$ H0; iintro H0
  iapply (wp_rLoad m c ho') $$ Hr; iintro Hr
  iapply (wp_oPeek c (b := 1) hob) $$ H1; iintro H1 %_
  iapply (wp_oStore c (b := 1) hob) $$ H1; iintro H1
  iapply (wp_oLoad c (b := 0) hoa) $$ H0; iintro H0
  iapply (wp_oLoad c (b := 1) hob) $$ H1; iintro H1
  iapply (wp_oLoad c (b := 0) hoa) $$ H0; iintro H0
  iapply (wp_oLoad c (b := 0) hoa) $$ H0; iintro H0
  ihave H0 := (oAny_of c 0 _) $$ H0
  iapply (wp_oStore c (b := 0) hoa) $$ H0; iintro H0
  iapply (wp_oLoad c (b := 1) hob) $$ H1; iintro H1
  iapply (wp_oLoad c (b := 1) hob) $$ H1; iintro H1
  ihave H1 := (oAny_of c 1 _) $$ H1
  iapply (wp_oStore c (b := 1) hob) $$ H1; iintro H1
  iapply Hk
  isplitl [Hr]; · iexact Hr
  isplitl [H0]; · iexact H0
  iexact H1

end Cert.SoftmaxProof
-- ==== Proof.Offsets.lean ====
/-
The places that the kernel computes in trip `t`, as closed expressions.
-/
module

public import proofs.«01_k».proof.Proof.Values
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## Which parts of a trip run -/

theorem cond1_iff (t : Fin k0_t1_loop.trips) : k0_cond1 t = 1#1 ↔ 2 ≤ t.val := by revert t; decide
theorem cond2_iff (t : Fin k0_t1_loop.trips) (h : 2 ≤ t.val) : k0_cond2 t = 1#1 ↔ 3 ≤ t.val := by revert t; decide
theorem cond3_iff (t : Fin k0_t1_loop.trips) : k0_cond3 t = 1#1 ↔ t.val < 4 := by revert t; decide
theorem cond4_iff (t : Fin k0_t1_loop.trips) : k0_cond4 t = 1#1 ↔ 2 ≤ t.val := by revert t; decide
theorem cond5_iff (t : Fin k0_t1_loop.trips) :
    Scalar.cmpi .ne (Scalar.extui (Scalar.cmpi .sge (Scf.iv 0#32 1#32 t) 2#32) : BitVec 32) 0#32 = 1#1 ↔ 2 ≤ t.val := by revert t; decide

/-! ## The devices -/

theorem dev1_eq (c : Dev nD) (h) : (⟨k0_dev1 c, h⟩ : Dev nD) = peer c := by revert c; decide
theorem dev2_eq (c : Dev nD) (h) : (⟨k0_dev2 c, h⟩ : Dev nD) = peer c := by revert c; decide
theorem dev3_eq (c : Dev nD) (h) : (⟨k0_dev3 c, h⟩ : Dev nD) = peer c := by revert c; decide
theorem dev4_eq (c : Dev nD) (h) : (⟨k0_dev4 c, h⟩ : Dev nD) = peer c := by revert c; decide
theorem dev5_eq (c : Dev nD) (h) : (⟨k0_dev5 c, h⟩ : Dev nD) = peer c := by revert c; decide

/-! ## The trip's own chunks `2 t` and `2 t + 1` -/

theorem x_even (t : Fin k0_t1_loop.trips) : k0_off17 t = ![128 * (2 * t.val), 0] := by revert t; decide
theorem x_odd (t : Fin k0_t1_loop.trips) : k0_off18 t = ![128 * (2 * t.val + 1), 0] := by revert t; decide
/-- Column `q` of the even chunk's send slot. -/
theorem col_even (t : Fin k0_t1_loop.trips) (q : ℕ) : ![k0_off19 t 0, 0, q] = ![(2 * t.val) % 4, 0, q] :=
  congrArg (fun s => ![s, 0, q]) ((by decide : ∀ t : Fin k0_t1_loop.trips, k0_off19 t 0 = (2 * t.val) % 4) t)
theorem col_odd (t : Fin k0_t1_loop.trips) (q : ℕ) : ![k0_off20 t 0, 0, q] = ![(2 * t.val + 1) % 4, 0, q] :=
  congrArg (fun s => ![s, 0, q]) ((by decide : ∀ t : Fin k0_t1_loop.trips, k0_off20 t 0 = (2 * t.val + 1) % 4) t)
theorem sem_even (t : Fin k0_t1_loop.trips) : k0_off83 t = ![(2 * t.val) % 4] := by revert t; decide
theorem slot_even (t : Fin k0_t1_loop.trips) : k0_off84 t = ![(2 * t.val) % 4, 0, 0] := by revert t; decide
theorem sem_odd (t : Fin k0_t1_loop.trips) : k0_off85 t = ![(2 * t.val + 1) % 4] := by revert t; decide
theorem slot_odd (t : Fin k0_t1_loop.trips) : k0_off86 t = ![(2 * t.val + 1) % 4, 0, 0] := by revert t; decide
theorem wait_even (t : Fin k0_t1_loop.trips) (h : 2 ≤ t.val) : k0_off13 t = ![(2 * (t.val - 2)) % 4] := by revert t; decide
theorem wait_odd (t : Fin k0_t1_loop.trips) (h : 2 ≤ t.val) : k0_off15 t = ![(2 * (t.val - 2) + 1) % 4] := by revert t; decide

/-! ## The chunks `2 (t - 2)` and `2 (t - 2) + 1` that a trip finishes -/

theorem rsem_even (t : Fin k0_t1_loop.trips) (h : 2 ≤ t.val) : k0_off1 t = ![(2 * (t.val - 2)) % 4] := by revert t; decide
theorem rsem_odd (t : Fin k0_t1_loop.trips) (h : 2 ≤ t.val) : k0_off8 t = ![(2 * (t.val - 2) + 1) % 4] := by revert t; decide
theorem rslot_even (t : Fin k0_t1_loop.trips) (h : 2 ≤ t.val) : k0_off5 t = ![(2 * (t.val - 2)) % 4, 0, 0] := by revert t; decide
theorem rslot_odd (t : Fin k0_t1_loop.trips) (h : 2 ≤ t.val) : k0_off10 t = ![(2 * (t.val - 2) + 1) % 4, 0, 0] := by revert t; decide
theorem out_even0 (c : Dev nD) (t : Fin k0_t1_loop.trips) (h : 2 ≤ t.val) : k0_off6 c t = ![128 * (2 * (t.val - 2)), 16384 * half c 0] := by revert c t; decide
theorem out_even1 (c : Dev nD) (t : Fin k0_t1_loop.trips) (h : 2 ≤ t.val) : k0_off7 c t = ![128 * (2 * (t.val - 2)), 16384 * half c 1] := by revert c t; decide
theorem out_odd0 (c : Dev nD) (t : Fin k0_t1_loop.trips) (h : 2 ≤ t.val) : k0_off11 c t = ![128 * (2 * (t.val - 2) + 1), 16384 * half c 0] := by revert c t; decide
theorem out_odd1 (c : Dev nD) (t : Fin k0_t1_loop.trips) (h : 2 ≤ t.val) : k0_off12 c t = ![128 * (2 * (t.val - 2) + 1), 16384 * half c 1] := by revert c t; decide

/-! ## The semaphore of an array at a computed place -/

theorem send_sem_at {s : ℕ} (hs : s < 4) {o : Fin 1 → ℕ} {h hq} (ho : o = ![s]) : ((cc0_scratch6.slice (Rect.unit (s := S4) o S1.size h)).squeeze S_ hq).sem = (⟨5 + s, by omega⟩ : Fin 13) := by
  subst ho
  interval_cases s <;> with_unfolding_all rfl
theorem recv_sem_at {s : ℕ} (hs : s < 4) {o : Fin 1 → ℕ} {h hq} (ho : o = ![s]) : ((cc0_scratch7.slice (Rect.unit (s := S4) o S1.size h)).squeeze S_ hq).sem = (⟨9 + s, by omega⟩ : Fin 13) := by
  subst ho
  interval_cases s <;> with_unfolding_all rfl
theorem send_sem {k : ℕ} {o : Fin 1 → ℕ} {h hq} (ho : o = ![k % 4]) : ((cc0_scratch6.slice (Rect.unit (s := S4) o S1.size h)).squeeze S_ hq).sem = (⟨5 + k % 4, by omega⟩ : Fin 13) :=
  send_sem_at (Nat.mod_lt _ (by decide)) ho
theorem recv_sem {k : ℕ} {o : Fin 1 → ℕ} {h hq} (ho : o = ![k % 4]) : ((cc0_scratch7.slice (Rect.unit (s := S4) o S1.size h)).squeeze S_ hq).sem = (⟨9 + k % 4, by omega⟩ : Fin 13) :=
  recv_sem_at (Nat.mod_lt _ (by decide)) ho

end Cert.SoftmaxProof
-- ==== Proof.Compute.lean ====
/-
The part of a trip that multiplies two row blocks with the weights and sends the two slots.
-/
module

public import proofs.«01_k».proof.Proof.Steps
public import proofs.«01_k».proof.Proof.Offsets
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The trip's product, column block after column block -/

/-- What the product holds before column block `p`: blocks `p` and `p + 1` of the weights on their way, and `p` column blocks done in both slots. -/
def colSt (c : Dev nD) (k n p : ℕ) : sProp 𝕄 :=
  iprop(levAts L lv ∗ wAir m c p ∗ wAir m c (p + 1) ∗ sendUpTo m c k p ∗ sendUpTo m c (k + 1) p ∗ OW c n)

/-- One column block, by the place of its columns in the two send slots. -/
theorem wp_step (c : Dev nD) (t : Fin k0_t1_loop.trips) (n p : ℕ)
    {sp sp' : Space} {s s' : Shape} {e e' : EltTy} {κ' : Kind}
    {srcw : Memref sig .tc sp' s' e'} {dstw : Memref sig κ' sp s e} {hsrc : srcw.view.WordExact} {hdst : dstw.view.WordExact}
    {h₀ h₁ h₂} {hl₀ hl₁} {hu hu' hv hv'} {hlu hlv hxu hmu hxv hmv} {h₃} {hsrc' : (colW ![0, 512 * (p + 2)] h₃).view.WordExact} {hdst' : (slotW ![p % 2, 0, 0] h₂).view.WordExact} {hsem}
    {α : Type} {kk : PUnit → Prog (TpuEff nD τ sig (Elt F) Λ₀ .tc) α} {Q : α → sProp 𝕄} (hN : dstw.view.dmaCredit = NW) :
    colSt m c (2 * t.val) n p
      ⊢ iprop((colSt m c (2 * t.val) n (p + 1) -∗ WP c (kk ⟨⟩) Q)
        -∗ WP c (.op (.waitDma2 (wSem p) srcw dstw hsrc hdst) fun _ =>
          .op (.load bM (Rect.unit (s := S2x2048x512) ![p % 2, 0, 0] S1x2048x512.size h₀).toLoadRect hl₀) fun w =>
          .op (.load sM (rectC ![k0_off19 t 0, 0, 512 * p] hu).toLoadRect hlu) fun _ =>
          .op (.store sM (rectC ![k0_off19 t 0, 0, 512 * p] hu') (colPay (k0_pay14 (xChunk (xOf m c) (2 * t.val))) w) Finset.univ hxu hmu) fun _ =>
          .op (.load bM (Rect.unit (s := S2x2048x512) ![p % 2, 0, 0] S1x2048x512.size h₁).toLoadRect hl₁) fun w' =>
          .op (.load sM (rectC ![k0_off20 t 0, 0, 512 * p] hv).toLoadRect hlv) fun _ =>
          .op (.store sM (rectC ![k0_off20 t 0, 0, 512 * p] hv') (colPay (k0_pay14 (xChunk (xOf m c) (2 * t.val + 1))) w') Finset.univ hxv hmv) fun _ =>
          .op (.enqueueDma (colW ![0, 512 * (p + 2)] h₃) (.here (slotW ![p % 2, 0, 0] h₂)) (.dma (wSem p)) hsrc' hdst' hsem) kk) Q) := by
  unfold colSt
  iintro ⟨#Hlev, Ha, Hb, Hu, Hv, HO⟩ Hk
  iapply (wp_colNext m c p rfl rfl hN rfl rfl rfl (col_even t _) (col_even t _) (col_odd t _) (col_odd t _) rfl rfl rfl) $$ [Ha Hu Hv HO]
  · isplitr; · iexact Hlev
    isplitl [Ha]; · iexact Ha
    isplitl [Hu]; · iexact Hu
    isplitl [Hv] <;> iassumption
  iintro ⟨Ha, Hu, Hv, HO⟩
  iapply Hk
  isplitr; · iexact Hlev
  isplitl [Hb]; · iexact Hb
  isplitl [Ha]; · iexact Ha
  isplitl [Hu]; · iexact Hu
  isplitl [Hv] <;> iassumption

/-- A column block without a following copy. -/
theorem wp_stepLast (c : Dev nD) (t : Fin k0_t1_loop.trips) (n p : ℕ)
    {sp sp' : Space} {s s' : Shape} {e e' : EltTy} {κ' : Kind}
    {srcw : Memref sig .tc sp' s' e'} {dstw : Memref sig κ' sp s e} {hsrc : srcw.view.WordExact} {hdst : dstw.view.WordExact}
    {h₀ h₁} {hl₀ hl₁} {hu hu' hv hv'} {hlu hlv hxu hmu hxv hmv}
    {α : Type} {kk : PUnit → Prog (TpuEff nD τ sig (Elt F) Λ₀ .tc) α} {Q : α → sProp 𝕄} (hN : dstw.view.dmaCredit = NW) :
    iprop(levAts L lv ∗ wAir m c p ∗ sendUpTo m c (2 * t.val) p ∗ sendUpTo m c (2 * t.val + 1) p ∗ OW c n)
      ⊢ iprop((wIdle m c p ∗ sendUpTo m c (2 * t.val) (p + 1) ∗ sendUpTo m c (2 * t.val + 1) (p + 1) ∗ OW c n -∗ WP c (kk ⟨⟩) Q)
        -∗ WP c (.op (.waitDma2 (wSem p) srcw dstw hsrc hdst) fun _ =>
          .op (.load bM (Rect.unit (s := S2x2048x512) ![p % 2, 0, 0] S1x2048x512.size h₀).toLoadRect hl₀) fun w =>
          .op (.load sM (rectC ![k0_off19 t 0, 0, 512 * p] hu).toLoadRect hlu) fun _ =>
          .op (.store sM (rectC ![k0_off19 t 0, 0, 512 * p] hu') (colPay (k0_pay14 (xChunk (xOf m c) (2 * t.val))) w) Finset.univ hxu hmu) fun _ =>
          .op (.load bM (Rect.unit (s := S2x2048x512) ![p % 2, 0, 0] S1x2048x512.size h₁).toLoadRect hl₁) fun w' =>
          .op (.load sM (rectC ![k0_off20 t 0, 0, 512 * p] hv).toLoadRect hlv) fun _ =>
          .op (.store sM (rectC ![k0_off20 t 0, 0, 512 * p] hv') (colPay (k0_pay14 (xChunk (xOf m c) (2 * t.val + 1))) w') Finset.univ hxv hmv) kk) Q) :=
  wp_col m c p rfl hN rfl rfl (col_even t _) (col_even t _) (col_odd t _) (col_odd t _) rfl rfl

/-! ## What every step may use, for all slots -/

/-- The cells, the slot and the start of the arrivals of slot `k`, on both devices of the pair. -/
def ctxAt (c : Dev nD) (k : ℕ) : sProp 𝕄 :=
  iprop(CI m (sendCell c k) ∗ CI m (recvCell c k) ∗ CI m (recvCell (peer c) k) ∗ SI c k ∗ SI (peer c) k ∗ reached ER (recvCell (peer c) k) 0)
instance ctxAt_persistent (c k) : BI.Persistent (ctxAt (F := F) m c k) := by unfold ctxAt; infer_instance
theorem ctxAt_mod (c : Dev nD) (k : ℕ) : ctxAt m c (k % 4) = ctxAt m c k := by
  unfold ctxAt sendCell recvCell SI key recvAny
  rw [show sendSem (k % 4) = sendSem k from Fin.ext (by show 5 + k % 4 % 4 = 5 + k % 4; omega),
    show recvSem (k % 4) = recvSem k from Fin.ext (by show 9 + k % 4 % 4 = 9 + k % 4; omega), Nat.mod_mod,
    show slotSet (k % 4) = slotSet k from by ext i; rw [mem_slotSet, mem_slotSet, Nat.mod_mod]]

/-- What device `c` may use throughout. -/
def Ctx (c : Dev nD) : sProp 𝕄 :=
  iprop(levAts L lv ∗ (bigSep (Finset.range 4) fun k => ctxAt m c k) ∗ CI m (creditCell c) ∗ CI m (creditCell (peer c)) ∗ reached ER (creditCell (peer c)) 0)
instance Ctx_persistent (c) : BI.Persistent (Ctx (F := F) m c) := by unfold Ctx; infer_instance
theorem Ctx_at (c : Dev nD) (k : ℕ) : Ctx m c ⊢ ctxAt m c k := by
  rw [← ctxAt_mod]
  unfold Ctx
  iintro ⟨-, H, -⟩
  iapply (show (bigSep (Finset.range 4) fun k => ctxAt m c k) ⊢ ctxAt m c (k % 4) from bigSep_elim (Finset.mem_range.mpr (Nat.mod_lt k (by decide : 0 < 4))))
  iexact H
theorem Ctx_lev (c : Dev nD) : Ctx m c ⊢ levAts L lv := by
  unfold Ctx
  iintro ⟨H, -⟩
  iexact H

/-! ## The transfer of a finished slot -/

theorem freed_mod (c : Dev nD) (k : ℕ) : freed (F := F) c (k + 4) = freed c k := by
  unfold freed recvCell
  rw [key_mod, recvSem_mod]

/-- What the transfer of chunk `k` needs: its tokens, and the peer's receive slot or the right to take it once it is given back. -/
def TS (c : Dev nD) (k : ℕ) : sProp 𝕄 :=
  iprop(toks c k ∗ if k < 4 then recvAny (F := F) (peer c) k else writeTok ES (key (peer c) k) 1)

/-- The peer's slot has been given back when chunk `k` needs that. -/
def grantIf (c : Dev nD) (k : ℕ) : sProp 𝕄 := if k < 4 then iprop(emp) else freed (F := F) (peer c) (k - 4)

/-- The peer's receive slot for chunk `k`, free. -/
theorem dest (c : Dev nD) {k : ℕ} (hk : k < 8) :
    iprop(Ctx m c ∗ grantIf (F := F) c k ∗ if k < 4 then recvAny (F := F) (peer c) k else writeTok ES (key (peer c) k) 1)
      ⊢ |={Set.univ}=> iprop(recvAny (F := F) (peer c) k ∗ reached ER (recvCell (peer c) k) (k / 4)) := by
  by_cases h : k < 4
  · rw [if_pos h, show k / 4 = 0 by omega]
    iintro ⟨#HC, -, H⟩
    ihave #Hat := (Ctx_at m c k) $$ HC
    unfold ctxAt
    icases Hat with ⟨-, -, -, -, -, #Hr⟩
    imodintro
    isplitl [H]; · iexact H
    iexact Hr
  · rw [if_neg h, show k / 4 = 1 by omega]
    unfold grantIf freed
    rw [if_neg h]
    iintro ⟨#HC, #Hg, H⟩
    icases Hg with ⟨#Hrel, #Hr⟩
    ihave #Hat := (Ctx_at m c k) $$ HC
    unfold ctxAt
    icases Hat with ⟨-, -, -, -, #Hsi, -⟩
    unfold SI
    icases Hsi with ⟨%ι, #Hsi⟩
    ihave #Hrel' := (show released ES (key (peer c) (k - 4)) 1 ⊢ released ES (key (peer c) k) 1 from by rw [← key_mod, show k - 4 + 4 = k by omega]) $$ Hrel
    ihave #Hr' := (show reached ER (recvCell (peer c) (k - 4)) 1 ⊢ reached ER (recvCell (peer c) k) 1 from by unfold recvCell; rw [← recvSem_mod (k - 4), show k - 4 + 4 = k by omega]) $$ Hr
    imod (slot_take ES (Set.mem_univ ι) 1) $$ [H] with H
    · isplitr; · iexact Hsi
      isplitr; · iexact Hrel'
      iexact H
    imodintro
    isplitl [H]; · iexact H
    iexact Hr'

/-- The transfer of chunk `k` out of its finished slot. -/
theorem wp_sendOff (c : Dev nD) {k : ℕ} (hk : k < 8) {d : Dev nD} (hd : d = peer c) {sS sR : DmaSem sig} (hsS : sS = sendSem k) (hsR : sR = recvSem k)
    {o o' : Fin 3 → ℕ} {h h'} (ho : o = ![k % 4, 0, 0]) (ho' : o' = ![k % 4, 0, 0])
    {hsc} {hsrc : (slot4 sM o h).view.WordExact} {hdst : (slot4 rM o' h').view.WordExact} {hsem}
    {α : Type} {kk : PUnit → Prog (TpuEff nD τ sig (Elt F) Λ₀ .tc) α} {Q : α → sProp 𝕄} :
    iprop(Ctx m c ∗ sendUpTo m c k 32 ∗ atPos ER (sendCell c k) (k / 4) ∅ 0 ∗ reached ER (sendCell c k) (k / 4) ∗ TS c k ∗ grantIf (F := F) c k ∗ OW c (posS k))
      ⊢ iprop((sent m c k ∗ OW c (posS k + 1) -∗ WP c (kk ⟨⟩) Q)
        -∗ WP c (.op (.enqueueDma (slot4 sM o h) (.remote (Dev.tc d) (slot4 rM o' h') (.dma sS) hsc) (.dma sR) hsrc hdst hsem) kk) Q) := by
  unfold TS
  iintro ⟨#HC, Hs, Hat, #Hrs, ⟨Ht, Hd⟩, Hg, HO⟩ Hk
  imod (dest m c hk) $$ [Hg Hd] with ⟨Hd, #Hrr⟩
  · isplitr; · iexact HC
    isplitl [Hg] <;> iassumption
  ihave #Hca := (Ctx_at m c k) $$ HC
  unfold ctxAt
  icases Hca with ⟨#Hcs, -, #Hcr, -⟩
  ihave Hs := (sendUpTo_all m c k) $$ Hs
  iapply (wp_send m c hk hd hsS hsR ho ho') $$ [Hs Hat Ht Hd HO]
  · isplitr; · iexact Hcs
    isplitr; · iexact Hcr
    isplitl [Hs]; · iexact Hs
    isplitl [Hd]; · iexact Hd
    isplitl [Hat]; · iexact Hat
    isplitl [Ht]; · iexact Ht
    isplitr; · iexact Hrs
    isplitr; · iexact Hrr
    iexact HO
  iexact Hk

end Cert.SoftmaxProof
-- ==== Proof.Product.lean ====
/-
The first half of the kernel's pipeline: one trip's product and its two transfers.
-/
module

public import proofs.«01_k».proof.Proof.Compute
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The slots to write -/

/-- The two send slots of trip `t` before it: free in the first two trips, later still on their way out. -/
def slotsIn (c : Dev nD) (j : ℕ) : sProp 𝕄 :=
  if j < 2 then iprop(freeSlot (F := F) c (2 * j) ∗ freeSlot (F := F) c (2 * j + 1)) else iprop(sent m c (2 * (j - 2)) ∗ sent m c (2 * (j - 2) + 1))

theorem wp_slots (c : Dev nD) (t : Fin k0_t1_loop.trips) (h3 : k0_cond3 t = 1#1) (a : BitVec 32) (n : ℕ)
    {α : Type} {kk : (Σ' (_ : BitVec 32) (_ : BitVec 32) (_ : FVec F S128x2048 .bf16), BitVec 32) → Prog (TpuEff nD τ sig (Elt F) Λ₀ .tc) α} {Q : α → sProp 𝕄} :
    iprop(Ctx m c ∗ slotsIn m c t.val ∗ xPts m c ∗ OW c n)
      ⊢ iprop((freeSlot (F := F) c (2 * t.val) ∗ freeSlot (F := F) c (2 * t.val + 1) ∗ xPts m c ∗ OW c n
          -∗ ∀ v : Σ' (_ : BitVec 32) (_ : BitVec 32) (_ : FVec F S128x2048 .bf16), BitVec 32, ⌜v.2.2.1 = k0_pay12 (xChunk (xOf m c) (2 * t.val))⌝ -∗ WP c (kk v) Q)
        -∗ WP c (k0_part6 xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 t a h3 >>= kk) Q) := by
  have ht : t.val < 4 := (cond3_iff t).mp h3
  rw [k0_part6_eq_skeleton]
  unfold k0_part6_skel slotsIn
  by_cases h : 2 ≤ t.val
  · rw [if_neg (by omega), dif_pos ((cond4_iff t).mpr h)]
    simp only [Prog.lift, Prog.bind_op, Prog.bind_ret, Prog.pure_eq_ret]
    iintro ⟨#HC, ⟨H0, H1⟩, Hx, HO⟩ Hk
    ihave #Hlev := (Ctx_lev m c) $$ HC
    ihave #Hc0 := (Ctx_at m c (2 * (t.val - 2))) $$ HC
    ihave #Hc1 := (Ctx_at m c (2 * (t.val - 2) + 1)) $$ HC
    unfold ctxAt
    icases Hc0 with ⟨#Hc0, -⟩
    icases Hc1 with ⟨#Hc1, -⟩
    iapply (wp_sendWait m c (k := 2 * (t.val - 2)) (by omega) (send_sem (wait_even t h)) rfl) $$ [H0 HO]
    · isplitr; · iexact Hc0
      isplitr; · iexact Hlev
      isplitl [H0] <;> iassumption
    iintro ⟨H0, HO⟩
    iapply (wp_sendWait m c (k := 2 * (t.val - 2) + 1) (by omega) (send_sem (wait_odd t h)) rfl) $$ [H1 HO]
    · isplitr; · iexact Hc1
      isplitr; · iexact Hlev
      isplitl [H1] <;> iassumption
    iintro ⟨H1, HO⟩
    iapply (wp_xLoad m c (x_even t)) $$ Hx; iintro Hx
    ihave H0 := (Entails.of_eq (congrArg (freeSlot (F := F) c) (show 2 * (t.val - 2) + 4 = 2 * t.val by omega))) $$ H0
    ihave H1 := (Entails.of_eq (congrArg (freeSlot (F := F) c) (show 2 * (t.val - 2) + 1 + 4 = 2 * t.val + 1 by omega))) $$ H1
    iapply Hk $$ [H0 H1 Hx HO]
    · isplitl [H0]; · iexact H0
      isplitl [H1]; · iexact H1
      isplitl [Hx] <;> iassumption
    ipureintro; rfl
  · rw [if_pos (by omega), dif_neg (fun e => h ((cond4_iff t).mp e))]
    simp only [Prog.lift, Prog.bind_op, Prog.bind_ret, Prog.pure_eq_ret]
    iintro ⟨#HC, ⟨H0, H1⟩, Hx, HO⟩ Hk
    iapply (wp_xLoad m c (x_even t)) $$ Hx; iintro Hx
    iapply Hk $$ [H0 H1 Hx HO]
    · isplitl [H0]; · iexact H0
      isplitl [H1]; · iexact H1
      isplitl [Hx] <;> iassumption
    ipureintro; rfl

/-! ## The credits to wait for -/

/-- The credits of the two receive slots that trip `j` reuses, before and after it waits for them. -/
def credIn (c : Dev nD) (j : ℕ) : sProp 𝕄 := if j < 2 then iprop(emp) else credSt (F := F) c (j - 2)
def credOut (c : Dev nD) (j : ℕ) : sProp 𝕄 := if j < 2 then iprop(emp) else iprop(credSt (F := F) c (j - 1) ∗ grants (F := F) c (2 * (j - 1)))

theorem wp_credits (c : Dev nD) (t : Fin k0_t1_loop.trips) (ht : t.val < 4) {b : BitVec 1} (hb : b = 1#1 ↔ 2 ≤ t.val) {w : ℤ} (hw : w = ((2 : ℕ) : ℤ)) {sem : Sem sig} (hs : sem = creditSem)
    {α : Type} {kk : PUnit → Prog (TpuEff nD τ sig (Elt F) Λ₀ .tc) α} {Q : α → sProp 𝕄} :
    iprop(Ctx m c ∗ credIn (F := F) c t.val ∗ OW c (posS (2 * t.val)))
      ⊢ iprop((credOut (F := F) c t.val ∗ OW c (posS (2 * t.val)) -∗ WP c (kk ⟨⟩) Q)
        -∗ WP c ((if _ : b = 1#1 then .op (.semWait sem w) fun _ => .ret ⟨⟩ else .ret ⟨⟩ : Prog (TpuEff nD τ sig (Elt F) Λ₀ .tc) PUnit) >>= kk) Q) := by
  unfold credIn credOut
  by_cases h : 2 ≤ t.val
  · rw [if_neg (by omega), if_neg (by omega), dif_pos (hb.mpr h)]
    simp only [Prog.bind_op, Prog.bind_ret]
    iintro ⟨#HC, Hcr, HO⟩ Hk
    ihave #Hlev := (Ctx_lev m c) $$ HC
    unfold Ctx
    icases HC with ⟨-, -, #Hcc, -⟩
    iapply (wp_creditWait m c (q := t.val - 2) (n := posS (2 * t.val)) (by omega) (by
      have : t.val = 2 ∨ t.val = 3 := by omega
      rcases this with e | e <;> rw [e] <;> decide) hs hw) $$ [Hcr HO]
    · isplitr; · iexact Hcc
      isplitr; · iexact Hlev
      isplitl [Hcr] <;> iassumption
    rw [show t.val - 2 + 1 = t.val - 1 by omega]
    iintro ⟨Hcr, Hg, HO⟩
    iapply Hk
    isplitl [Hcr Hg]
    · isplitl [Hcr] <;> iassumption
    · iexact HO
  · rw [if_pos (by omega), if_pos (by omega), dif_neg (fun e => h (hb.mp e))]
    simp only [Prog.bind_ret]
    iintro ⟨-, He, HO⟩ Hk
    iapply Hk
    isplitl [He] <;> iassumption

/-! ## The whole first half -/

/-- What trip `j` hands its two transfers. -/
def sendIn (c : Dev nD) (j : ℕ) : sProp 𝕄 :=
  iprop(slotsIn m c j ∗ credIn (F := F) c j ∗ TS c (2 * j) ∗ TS c (2 * j + 1) ∗ wIdle m c 0 ∗ wIdle m c 1 ∗ xPts m c ∗ OW c (posS (2 * j)))
def sendOut (c : Dev nD) (j : ℕ) : sProp 𝕄 :=
  iprop(sent m c (2 * j) ∗ sent m c (2 * j + 1) ∗ credOut (F := F) c j ∗ wIdle m c 0 ∗ wIdle m c 1 ∗ xPts m c ∗ OW c (posS (2 * j + 1) + 1))

theorem grantIf_of (c : Dev nD) (j : ℕ) (b : ℕ) (hb : b < 2) : credOut (F := F) c j ⊢ iprop(credOut (F := F) c j ∗ grantIf (F := F) c (2 * j + b)) := by
  unfold credOut grantIf
  by_cases h : j < 2
  · rw [if_pos h, if_pos (by omega)]
    iintro H
    isplitl [H]; · iexact H
    iempintro
  · rw [if_neg h, if_neg (by omega)]
    iintro ⟨H, #Hg⟩
    isplitl [H]
    · isplitl [H]; · iexact H
      iexact Hg
    unfold grants
    iapply (show (bigSep (Finset.range (2 * (j - 1))) fun s => freed (F := F) (peer c) s) ⊢ freed (F := F) (peer c) (2 * j + b - 4) from bigSep_elim (Finset.mem_range.mpr (by omega)))
    iexact Hg

set_option maxRecDepth 65536 in
set_option maxHeartbeats 4000000 in
theorem wp_product (c : Dev nD) (t : Fin k0_t1_loop.trips) (h3 : k0_cond3 t = 1#1) (v5 v8 v9 : BitVec 32)
    {α : Type} {kk : BitVec 32 → Prog (TpuEff nD τ sig (Elt F) Λ₀ .tc) α} {Q : α → sProp 𝕄} :
    iprop(Ctx m c ∗ sendIn m c t.val)
      ⊢ iprop((∀ v, sent m c (2 * t.val) ∗ sendUpTo m c (2 * t.val + 1) 32 ∗ atPos ER (sendCell c (2 * t.val + 1)) ((2 * t.val + 1) / 4) ∅ 0 ∗ reached ER (sendCell c (2 * t.val + 1)) ((2 * t.val + 1) / 4)
            ∗ TS c (2 * t.val + 1) ∗ credOut (F := F) c t.val ∗ wIdle m c 0 ∗ wIdle m c 1 ∗ xPts m c ∗ OW c (posS (2 * t.val) + 1) -∗ WP c (kk v) Q)
        -∗ WP c (k0_part36 xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 c v5 v8 v9 t (Scf.iv 0#32 1#32 t) h3 >>= kk) Q) := by
  have ht : t.val < 4 := (cond3_iff t).mp h3
  simp only [k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, Prog.lift, Prog.bind_op, Prog.bind_ret, Prog.pure_eq_ret, bind_assoc, semSignalWord, semWaitWord]
  unfold sendIn
  iintro ⟨#HC, Hsl, Hcr, Ht0, Ht1, Hw0, Hw1, Hx, HO⟩ Hk
  ihave #Hlev := (Ctx_lev m c) $$ HC
  iapply (wp_slots m c t h3 (Scf.iv 0#32 1#32 t) (posS (2 * t.val))) $$ [Hsl Hx HO]
  · isplitr; · iexact HC
    isplitl [Hsl]; · iexact Hsl
    isplitl [Hx] <;> iassumption
  iintro ⟨Hf0, Hf1, Hx, HO⟩ %v %hv
  rcases v with ⟨va, vb, vx, vd⟩
  subst hv
  iapply (wp_xLoad m c (x_odd t)) $$ Hx; iintro Hx
  iapply (wp_wStart m c 0 rfl rfl rfl) $$ Hw0; iintro Hw0
  iapply (wp_wStart m c 1 rfl rfl rfl) $$ Hw1; iintro Hw1
  unfold freeSlot
  icases Hf0 with ⟨Hu, Hat0, #Hr0⟩
  icases Hf1 with ⟨Hv, Hat1, #Hr1⟩
  ihave Hu := (sendUpTo_zero m c (2 * t.val)) $$ Hu
  ihave Hv := (sendUpTo_zero m c (2 * t.val + 1)) $$ Hv
  ihave H : colSt m c (2 * t.val) (posS (2 * t.val)) 0 $$ [Hw0 Hw1 Hu Hv HO]
  · unfold colSt
    isplitr; · iexact Hlev
    isplitl [Hw0]; · iexact Hw0
    isplitl [Hw1]; · iexact Hw1
    isplitl [Hu]; · iexact Hu
    isplitl [Hv] <;> iassumption
  iapply (wp_step m c t _ 0 rfl) $$ H; iintro H
  iapply (wp_step m c t _ 1 rfl) $$ H; iintro H
  iapply (wp_step m c t _ 2 rfl) $$ H; iintro H
  iapply (wp_step m c t _ 3 rfl) $$ H; iintro H
  iapply (wp_step m c t _ 4 rfl) $$ H; iintro H
  iapply (wp_step m c t _ 5 rfl) $$ H; iintro H
  iapply (wp_step m c t _ 6 rfl) $$ H; iintro H
  iapply (wp_step m c t _ 7 rfl) $$ H; iintro H
  iapply (wp_step m c t _ 8 rfl) $$ H; iintro H
  iapply (wp_step m c t _ 9 rfl) $$ H; iintro H
  iapply (wp_step m c t _ 10 rfl) $$ H; iintro H
  iapply (wp_step m c t _ 11 rfl) $$ H; iintro H
  iapply (wp_step m c t _ 12 rfl) $$ H; iintro H
  iapply (wp_step m c t _ 13 rfl) $$ H; iintro H
  iapply (wp_step m c t _ 14 rfl) $$ H; iintro H
  iapply (wp_step m c t _ 15 rfl) $$ H; iintro H
  iapply (wp_step m c t _ 16 rfl) $$ H; iintro H
  iapply (wp_step m c t _ 17 rfl) $$ H; iintro H
  iapply (wp_step m c t _ 18 rfl) $$ H; iintro H
  iapply (wp_step m c t _ 19 rfl) $$ H; iintro H
  iapply (wp_step m c t _ 20 rfl) $$ H; iintro H
  iapply (wp_step m c t _ 21 rfl) $$ H; iintro H
  iapply (wp_step m c t _ 22 rfl) $$ H; iintro H
  iapply (wp_step m c t _ 23 rfl) $$ H; iintro H
  iapply (wp_step m c t _ 24 rfl) $$ H; iintro H
  iapply (wp_step m c t _ 25 rfl) $$ H; iintro H
  iapply (wp_step m c t _ 26 rfl) $$ H; iintro H
  iapply (wp_step m c t _ 27 rfl) $$ H; iintro H
  iapply (wp_step m c t _ 28 rfl) $$ H; iintro H
  iapply (wp_step m c t _ 29 rfl) $$ H; iintro H
  unfold colSt
  icases H with ⟨-, Hw0, Hw1, Hu, Hv, HO⟩
  iapply (wp_stepLast m c t _ 30 rfl) $$ [Hw0 Hu Hv HO]
  · isplitr; · iexact Hlev
    isplitl [Hw0]; · iexact Hw0
    isplitl [Hu]; · iexact Hu
    isplitl [Hv] <;> iassumption
  iintro ⟨Hw0, Hu, Hv, HO⟩
  iapply (wp_stepLast m c t _ 31 rfl) $$ [Hw1 Hu Hv HO]
  · isplitr; · iexact Hlev
    isplitl [Hw1]; · iexact Hw1
    isplitl [Hu]; · iexact Hu
    isplitl [Hv] <;> iassumption
  iintro ⟨Hw1, Hu, Hv, HO⟩
  iapply (wp_credits m c t ht (cond5_iff t) rfl rfl) $$ [Hcr HO]
  · isplitr; · iexact HC
    isplitl [Hcr] <;> iassumption
  iintro ⟨Hcr, HO⟩
  ihave Hcr := (grantIf_of c t.val 0 (by decide)) $$ Hcr
  icases Hcr with ⟨Hcr, Hg⟩
  iapply (wp_sendOff m c (k := 2 * t.val) (by omega) (dev4_eq c _) (send_sem (sem_even t)) (recv_sem (sem_even t)) (slot_even t) (slot_even t)) $$ [Hu Hat0 Ht0 Hg HO]
  · isplitr; · iexact HC
    isplitl [Hu]; · iexact Hu
    isplitl [Hat0]; · iexact Hat0
    isplitr; · iexact Hr0
    isplitl [Ht0]; · iexact Ht0
    isplitl [Hg] <;> iassumption
  iintro ⟨Hs0, HO⟩
  iapply Hk
  isplitl [Hs0]; · iexact Hs0
  isplitl [Hv]; · iexact Hv
  isplitl [Hat1]; · iexact Hat1
  isplitr; · iexact Hr1
  isplitl [Ht1]; · iexact Ht1
  isplitl [Hcr]; · iexact Hcr
  isplitl [Hw0]; · iexact Hw0
  isplitl [Hw1]; · iexact Hw1
  isplitl [Hx] <;> iassumption

end Cert.SoftmaxProof
-- ==== Proof.Finish.lean ====
/-
The second half of the kernel's pipeline: the output of the two chunks that have arrived.
-/
module

public import proofs.«01_k».proof.Proof.Compute
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## Giving a receive slot back -/

/-- The receive slots given back after `k` chunks. -/
def rels (c : Dev nD) (k : ℕ) : sProp 𝕄 := bigSep (Finset.range (min k 4)) fun s => freed (F := F) c s
instance rels_persistent (c k) : BI.Persistent (rels (F := F) c k) := by unfold rels; infer_instance
/-- The right to give the slot of chunk `k` back, once per slot. -/
def giveTok (c : Dev nD) (k : ℕ) : sProp 𝕄 := if k < 4 then readerAt ES (key c k) 0 else iprop(emp)
/-- The receive slot of a chunk after the last use of the slot. -/
def kept (c : Dev nD) (k : ℕ) : sProp 𝕄 := if k < 4 then iprop(emp) else recvAny (F := F) c k

theorem rels_succ (c : Dev nD) {k : ℕ} (h : k < 4) : iprop(freed (F := F) c k ∗ rels (F := F) c k) ⊢ rels (F := F) c (k + 1) := by
  unfold rels
  rw [min_eq_left (by omega : k ≤ 4), min_eq_left (by omega : k + 1 ≤ 4), Finset.range_add_one]
  exact Entails.of_eq (bigSep_insert Finset.notMem_range_self).symm

theorem giveBack (c : Dev nD) (k : ℕ) :
    iprop(Ctx m c ∗ rels (F := F) c k ∗ giveTok (F := F) c k ∗ recvPts c k (lgBuf m (peer c) k) ∗ reached ER (recvCell c k) (k / 4 + 1))
      ⊢ |={Set.univ}=> iprop(rels (F := F) c (k + 1) ∗ kept (F := F) c k) := by
  unfold giveTok kept
  by_cases h : k < 4
  · rw [if_pos h, if_pos h, show k / 4 + 1 = 1 by omega]
    iintro ⟨#HC, #Hrels, Ht, Hp, #Hr⟩
    ihave #Hat := (Ctx_at m c k) $$ HC
    unfold ctxAt
    icases Hat with ⟨-, -, -, #Hsi, -⟩
    unfold SI
    icases Hsi with ⟨%ι, #Hsi⟩
    ihave Hp := (recvAny_of c k _) $$ Hp
    imod (slot_release ES (Set.mem_univ ι) (show iprop(recvAny (F := F) c k ∗ recvAny (F := F) c k) ⊢ (False : sProp 𝕄) from slot_slot_false (slotSet_nonempty k)) 0) $$ [Ht Hp] with ⟨-, #Hrel⟩
    · isplitr; · iexact Hsi
      isplitl [Ht]; · iexact Ht
      iexact Hp
    imodintro
    isplitr
    · iapply (rels_succ c h)
      isplitr
      · unfold freed
        isplitr; · iexact Hrel
        iexact Hr
      · iexact Hrels
    · iempintro
  · rw [if_neg h, if_neg h, show rels (F := F) c (k + 1) = rels c k by unfold rels; rw [min_eq_right (by omega : 4 ≤ k), min_eq_right (by omega : 4 ≤ k + 1)]]
    iintro ⟨-, #Hrels, -, Hp, -⟩
    imodintro
    isplitr; · iexact Hrels
    iapply (recvAny_of c k _); iexact Hp

/-- The credit for chunk `k`, with its receive slot given back first. -/
theorem wp_giveBack (c : Dev nD) {k : ℕ} (hk : k < 8) {d : Dev nD} (hd : d = peer c) {sem : Sem sig} (hs : sem = creditSem) {w : ℤ} (hw : w = ((1 : ℕ) : ℤ))
    {α : Type} {kk : PUnit → Prog (TpuEff nD τ sig (Elt F) Λ₀ .tc) α} {Q : α → sProp 𝕄} :
    iprop(Ctx m c ∗ rels (F := F) c k ∗ giveTok (F := F) c k ∗ recvPts c k (lgBuf m (peer c) k) ∗ reached ER (recvCell c k) (k / 4 + 1)
        ∗ dutyTok ER (creditCell (peer c)) 0 k ∗ OW c (posC k))
      ⊢ iprop((rels (F := F) c (k + 1) ∗ kept (F := F) c k ∗ OW c (posC k + 1) -∗ WP c (kk ⟨⟩) Q) -∗ WP c (.op (.semSignal (d, .tc) sem w) kk) Q) := by
  iintro ⟨#HC, Hrels, Ht, Hp, Hr, Hd, HO⟩ Hk
  imod (giveBack m c k) $$ [Hrels Ht Hp Hr] with ⟨#Hrels, Hkept⟩
  · isplitr; · iexact HC
    isplitl [Hrels]; · iexact Hrels
    isplitl [Ht]; · iexact Ht
    isplitl [Hp] <;> iassumption
  unfold Ctx
  icases HC with ⟨-, -, -, #Hcc, #Hcr⟩
  iapply (wp_credit m c hk hd hs hw) $$ [Hd HO]
  · isplitr; · iexact Hcc
    isplitr; · iexact Hcr
    isplitl [Hd]; · iexact Hd
    isplitr
    · iapply (Entails.of_eq (show rels (F := F) c (k + 1) = creditPay (F := F) (peer c) k from by
        rw [creditPay_peer, show min k 3 + 1 = min (k + 1) 4 by omega]; rfl))
      iexact Hrels
    · iexact HO
  iintro HO
  iapply Hk
  isplitr; · iexact Hrels
  isplitl [Hkept] <;> iassumption

/-! ## The arrival of the even chunk -/

/-- The output before chunk `k`: nothing under way at first, then the chunk before it. -/
def outSt (c : Dev nD) (k : ℕ) : sProp 𝕄 := if k = 0 then outIdle m c 0 else outBusy m c (k - 1)

/-- What the arrival of chunk `k` takes. -/
def arrIn (c : Dev nD) (k : ℕ) : sProp 𝕄 := iprop(cred (tallyAt (recvCell c k) (k / 4) N) ∗ atPos ER (recvCell c k) (k / 4) ∅ 0)
/-- What it leaves. -/
def arrOut (c : Dev nD) (k : ℕ) : sProp 𝕄 :=
  iprop(recvPts c k (lgBuf m (peer c) k) ∗ atPos ER (recvCell c (k + 4)) ((k + 4) / 4) ∅ 0 ∗ reached ER (recvCell c k) (k / 4 + 1))

theorem wp_arrive (c : Dev nD) {k : ℕ} (hk : k < 8) {sp sp' : Space} {s s' : Shape} {e e' : EltTy} {κ' : Kind} {sem : DmaSem sig} (hs : sem = recvSem k)
    {srcw : Memref sig .tc sp' s' e'} {dstw : Memref sig κ' sp s e} {hsrc : srcw.view.WordExact} {hdst : dstw.view.WordExact}
    (hN : dstw.view.dmaCredit = N) {α : Type} {kk : PUnit → Prog (TpuEff nD τ sig (Elt F) Λ₀ .tc) α} {Q : α → sProp 𝕄} :
    iprop(Ctx m c ∗ arrIn (F := F) c k ∗ OW c (posC k))
      ⊢ iprop((arrOut m c k ∗ OW c (posC k) -∗ WP c (kk ⟨⟩) Q) -∗ WP c (.op (.waitDma2 sem srcw dstw hsrc hdst) kk) Q) := by
  unfold arrIn arrOut
  iintro ⟨#HC, ⟨Hc, Hat⟩, HO⟩ Hk
  ihave #Hlev := (Ctx_lev m c) $$ HC
  ihave #Hca := (Ctx_at m c k) $$ HC
  unfold ctxAt
  icases Hca with ⟨-, #Hca, -⟩
  iapply (wp_recvWait m c hk (n := posC k) (by interval_cases k <;> decide) hs hN) $$ [Hc Hat HO]
  · isplitr; · iexact Hca
    isplitr; · iexact Hlev
    isplitl [Hc]; · iexact Hc
    isplitl [Hat] <;> iassumption
  iintro ⟨Hp, Hat, Hr, HO⟩
  iapply Hk
  isplitr [HO]
  · isplitl [Hp]; · iexact Hp
    isplitl [Hat] <;> iassumption
  · iexact HO

theorem wp_first (c : Dev nD) (t : Fin k0_t1_loop.trips) (h1 : k0_cond1 t = 1#1) (v5 v8 v9 a : BitVec 32) {q : PosShare TreeShare}
    {α : Type} {kk : (Σ' (_ : BitVec 32) (_ : BitVec 32) (_ : BitVec 32), FVec F S128x16384 .bf16) → Prog (TpuEff nD τ sig (Elt F) Λ₀ .tc) α} {Q : α → sProp 𝕄} :
    iprop(Ctx m c ∗ arrIn (F := F) c (2 * (t.val - 2)) ∗ outSt m c (2 * (t.val - 2)) ∗ sendPts c (2 * (t.val - 2)) q (lgBuf m c (2 * (t.val - 2))) ∗ OW c (posC (2 * (t.val - 2))))
      ⊢ iprop((arrOut m c (2 * (t.val - 2)) ∗ outIdle m c (2 * (t.val - 2)) ∗ sendPts c (2 * (t.val - 2)) q (lgBuf m c (2 * (t.val - 2))) ∗ OW c (posC (2 * (t.val - 2)))
          -∗ ∀ v : Σ' (_ : BitVec 32) (_ : BitVec 32) (_ : BitVec 32), FVec F S128x16384 .bf16, ⌜v.2.2.2 = k0_pay1 (lg (xOf m c) (wOf m c) (2 * (t.val - 2)))⌝ -∗ WP c (kk v) Q)
        -∗ WP c (k0_part1 xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 c v5 v8 v9 t a h1 >>= kk) Q) := by
  have h : 2 ≤ t.val := (cond1_iff t).mp h1
  have ht : t.val < 6 := t.isLt
  rw [k0_part1_eq_skeleton]
  unfold k0_part1_skel outSt
  by_cases h' : 3 ≤ t.val
  · rw [if_neg (by omega)]
    simp only [dif_pos ((cond2_iff t h).mpr h'), Prog.lift, Prog.bind_op, Prog.bind_ret, Prog.pure_eq_ret]
    iintro ⟨#HC, Harr, Hout, Hs, HO⟩ Hk
    ihave #Hlev := (Ctx_lev m c) $$ HC
    iapply (wp_arrive m c (k := 2 * (t.val - 2)) (by omega) (recv_sem (rsem_even t h)) rfl) $$ [Harr HO]
    · isplitr; · iexact HC
      isplitl [Harr] <;> iassumption
    iintro ⟨Harr, HO⟩
    iapply (wp_outWait2 m c (k := 2 * (t.val - 2) - 1) rfl rfl rfl rfl) $$ [Hout HO]
    · isplitr; · iexact Hlev
      isplitl [Hout] <;> iassumption
    rw [show 2 * (t.val - 2) - 1 + 1 = 2 * (t.val - 2) by omega]
    iintro ⟨Hout, HO⟩
    iapply (wp_sLoad m c (rslot_even t h)) $$ Hs; iintro Hs
    iapply Hk $$ [Harr Hout Hs HO]
    · isplitl [Harr]; · iexact Harr
      isplitl [Hout]; · iexact Hout
      isplitl [Hs] <;> iassumption
    ipureintro; rfl
  · rw [if_pos (by omega)]
    simp only [dif_neg (fun e => h' ((cond2_iff t h).mp e)), Prog.lift, Prog.bind_op, Prog.bind_ret, Prog.pure_eq_ret]
    iintro ⟨#HC, Harr, Hout, Hs, HO⟩ Hk
    iapply (wp_arrive m c (k := 2 * (t.val - 2)) (by omega) (recv_sem (rsem_even t h)) rfl) $$ [Harr HO]
    · isplitr; · iexact HC
      isplitl [Harr] <;> iassumption
    iintro ⟨Harr, HO⟩
    iapply (wp_sLoad m c (rslot_even t h)) $$ Hs; iintro Hs
    iapply Hk $$ [Harr Hout Hs HO]
    · isplitl [Harr]; · iexact Harr
      isplitl [Hout]
      · iapply (Entails.of_eq (congrArg (outIdle m c) (show 0 = 2 * (t.val - 2) by omega))); iexact Hout
      isplitl [Hs] <;> iassumption
    ipureintro; rfl

end Cert.SoftmaxProof
-- ==== Proof.Trip.lean ====
/-
One trip of the kernel's loop, from the state before it to the state after it.
-/
module

public import proofs.«01_k».proof.Proof.Product
public import proofs.«01_k».proof.Proof.Finish
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The state before a trip

Everything comes in pairs: trip `j` computes the chunks `2 j` and `2 j + 1`, and finishes the two chunks of trip `j - 2`. -/

def sentP (c : Dev nD) (i : ℕ) : sProp 𝕄 := iprop(sent m c (2 * i) ∗ sent m c (2 * i + 1))
def freeP (c : Dev nD) (i : ℕ) : sProp 𝕄 := iprop(freeSlot (F := F) c (2 * i) ∗ freeSlot (F := F) c (2 * i + 1))
def TSP (c : Dev nD) (i : ℕ) : sProp 𝕄 := iprop(TS (F := F) c (2 * i) ∗ TS (F := F) c (2 * i + 1))
def atP (c : Dev nD) (i : ℕ) : sProp 𝕄 := iprop(atPos ER (recvCell c (2 * i)) (2 * i / 4) ∅ 0 ∗ atPos ER (recvCell c (2 * i + 1)) ((2 * i + 1) / 4) ∅ 0)
def keptP (c : Dev nD) (i : ℕ) : sProp 𝕄 := iprop(kept (F := F) c (2 * i) ∗ kept (F := F) c (2 * i + 1))
/-- What finishing chunk `k` uses up. -/
def rcv (c : Dev nD) (k : ℕ) : sProp 𝕄 := iprop(cred (tallyAt (recvCell c k) (k / 4) N) ∗ giveTok (F := F) c k ∗ dutyTok ER (creditCell (peer c)) 0 k)
def rcvP (c : Dev nD) (i : ℕ) : sProp 𝕄 := iprop(rcv (F := F) c (2 * i) ∗ rcv (F := F) c (2 * i + 1))

/-- The send slots before trip `j`. -/
def sndSlots (c : Dev nD) (j : ℕ) : sProp 𝕄 :=
  iprop(bigSep (Finset.Ico (min j 2) 2) (freeP (F := F) c) ∗ bigSep (Finset.Ico (min j 4 - 2) (min j 4)) (sentP m c))
/-- What else the first halves from trip `j` on use. -/
def sndRes (c : Dev nD) (j : ℕ) : sProp 𝕄 :=
  iprop(bigSep (Finset.Ico (min j 4) 4) (TSP (F := F) c) ∗ credSt (F := F) c (min j 4 - 2) ∗ wIdle m c 0 ∗ wIdle m c 1 ∗ xPts m c)
/-- The receiving side with `i` pairs of chunks finished. -/
def rcvSt (c : Dev nD) (i : ℕ) : sProp 𝕄 :=
  iprop(bigSep (Finset.Ico i 4) (rcvP (F := F) c) ∗ bigSep (Finset.Ico i (i + 2)) (atP (F := F) c) ∗ outSt m c (2 * i) ∗ rels (F := F) c (2 * i) ∗ bigSep (Finset.Ico 0 i) (keptP (F := F) c))

/-- The payments made before trip `j`, and between its halves. -/
def pos (j : ℕ) : ℕ := if j < 2 then posS (2 * j) else posC (2 * (j - 2))
def mid (j : ℕ) : ℕ := if j < 2 then posS (2 * j) else posC (2 * (j - 2) + 1) + 1
theorem mid_lt {j : ℕ} (h : j < 4) : mid j = posS (2 * j) := by interval_cases j <;> decide
theorem mid_ge {j : ℕ} (h : 4 ≤ j) (h' : j < 6) : mid j = pos (j + 1) := by interval_cases j <;> decide
theorem pos_succ {j : ℕ} (h : j < 4) : posS (2 * j + 1) + 1 = pos (j + 1) := by interval_cases j <;> decide
theorem posC_succ {i : ℕ} (h : i < 4) : posC (2 * i) + 1 = posC (2 * i + 1) := by interval_cases i <;> decide

def St (c : Dev nD) (j : ℕ) : sProp 𝕄 := iprop(sndSlots m c j ∗ sndRes m c j ∗ rcvSt m c (j - 2) ∗ OW c (pos j))
def Mid (c : Dev nD) (j : ℕ) : sProp 𝕄 := iprop(sndSlots m c j ∗ sndRes m c j ∗ rcvSt m c (j + 1 - 2) ∗ OW c (mid j))

/-! ## The slots -/

theorem bigSep_focus {M : Type} [URA M] {S : Finset ℕ} {a : ℕ} (h : a ∈ S) (Φ : ℕ → sProp M) : bigSep S Φ ⊢ iprop(Φ a ∗ (Φ a -∗ bigSep S Φ)) := by
  have e : bigSep S Φ = iprop(Φ a ∗ bigSep (S \ {a}) Φ) := by
    rw [bigSep_split_sub (Finset.singleton_subset_iff.mpr h) Φ, bigSep_singleton]
  iintro H
  ihave H := (Entails.of_eq e) $$ H
  icases H with ⟨Ha, H⟩
  isplitl [Ha]; · iexact Ha
  iintro Ha
  iapply (Entails.of_eq e.symm)
  isplitl [Ha] <;> iassumption

theorem slots_focus (c : Dev nD) {j : ℕ} (h : 2 ≤ j) (h' : j < 6) : sndSlots m c j ⊢ iprop(sentP m c (j - 2) ∗ (sentP m c (j - 2) -∗ sndSlots m c j)) := by
  unfold sndSlots
  iintro ⟨Hf, Hs⟩
  ihave Hs := (bigSep_focus (Finset.mem_Ico.mpr (by omega : min j 4 - 2 ≤ j - 2 ∧ j - 2 < min j 4)) (sentP m c)) $$ Hs
  icases Hs with ⟨Hs, Hw⟩
  isplitl [Hs]; · iexact Hs
  iintro Hs
  isplitl [Hf]; · iexact Hf
  iapply Hw; iexact Hs

theorem slots_take (c : Dev nD) {j : ℕ} (h : j < 4) : sndSlots m c j ⊢ iprop(slotsIn m c j ∗ (sentP m c j -∗ sndSlots m c (j + 1))) := by
  have hpush : ∀ a, a ≤ j → iprop(sentP m c j ∗ bigSep (Finset.Ico a j) (sentP m c)) ⊢ bigSep (Finset.Ico a (j + 1)) (sentP m c) :=
    fun a ha => Entails.of_eq (bigSep_Ico_push ha (sentP m c)).symm
  unfold sndSlots slotsIn
  by_cases h2 : j < 2
  · rw [if_pos h2, min_eq_left (by omega : j ≤ 2), min_eq_left (by omega : j ≤ 4), min_eq_left (by omega : j + 1 ≤ 2), min_eq_left (by omega : j + 1 ≤ 4),
      show j - 2 = 0 by omega, show j + 1 - 2 = 0 by omega]
    iintro ⟨Hf, Hs⟩
    ihave Hf := (Entails.of_eq (bigSep_Ico_pop (by omega : j < 2) (freeP (F := F) c))) $$ Hf
    icases Hf with ⟨Hj, Hf⟩
    isplitl [Hj]; · unfold freeP; iexact Hj
    iintro Hn
    isplitl [Hf]; · iexact Hf
    iapply (hpush 0 (by omega))
    isplitl [Hn] <;> iassumption
  · rw [if_neg h2, min_eq_right (by omega : 2 ≤ j), min_eq_left (by omega : j ≤ 4), min_eq_right (by omega : 2 ≤ j + 1), min_eq_left (by omega : j + 1 ≤ 4)]
    iintro ⟨Hf, Hs⟩
    ihave Hs := (Entails.of_eq (bigSep_Ico_pop (by omega : j - 2 < j) (sentP m c))) $$ Hs
    icases Hs with ⟨Hj, Hs⟩
    isplitl [Hj]; · unfold sentP; iexact Hj
    iintro Hn
    isplitl [Hf]; · iexact Hf
    iapply (hpush (j + 1 - 2) (by omega))
    isplitl [Hn]; · iexact Hn
    iapply (Entails.of_eq (congrArg (fun a => bigSep (Finset.Ico a j) (sentP m c)) (show j - 2 + 1 = j + 1 - 2 by omega)))
    iexact Hs

theorem cred_take (c : Dev nD) {j : ℕ} (h : j < 4) : credSt (F := F) c (min j 4 - 2) ⊢ iprop(credIn (F := F) c j ∗ (credOut (F := F) c j -∗ credSt (F := F) c (min (j + 1) 4 - 2))) := by
  unfold credIn credOut
  by_cases h2 : j < 2
  · rw [if_pos h2, if_pos h2, show min j 4 - 2 = 0 by omega, show min (j + 1) 4 - 2 = 0 by omega]
    iintro H
    isplitr; · iempintro
    iintro -
    iexact H
  · rw [if_neg h2, if_neg h2, show min j 4 - 2 = j - 2 by omega, show min (j + 1) 4 - 2 = j - 1 by omega]
    iintro H
    isplitl [H]; · iexact H
    iintro ⟨H, -⟩
    iexact H

/-! ## The two halves -/

theorem wp_done (c : Dev nD) {Q : Unit → sProp 𝕄} : Q () ⊢ WP c (.ret ()) Q := by
  show Q () ⊢ iprop(|={Set.univ}[frame]=> Q ())
  iintro H
  imodintro
  iexact H

theorem wp_sends (c : Dev nD) (t : Fin k0_t1_loop.trips) (v5 v8 v9 : BitVec 32) {Q : Unit → sProp 𝕄}
    {P : k0_cond3 t = 1#1 → BitVec 32 → Prog (TpuEff nD τ sig (Elt F) Λ₀ .tc) Unit}
    (hP : ∀ (h3 : k0_cond3 t = 1#1) (v : BitVec 32), ∃ hd h h' hsc hsrc hdst hsem, P h3 v =
      .op (.enqueueDma (slot4 sM (k0_off86 t) h) (.remote (Dev.tc (⟨k0_dev5 c, hd⟩ : Dev nD)) (slot4 rM (k0_off86 t) h') (.dma ((cc0_scratch6.slice (Rect.unit (s := S4) (k0_off85 t) S1.size (k0_off85_inb t h3))).squeeze S_ squeezes_S1_S_).sem) hsc)
        (.dma ((cc0_scratch7.slice (Rect.unit (s := S4) (k0_off85 t) S1.size (k0_off85_inb t h3))).squeeze S_ squeezes_S1_S_).sem) hsrc hdst hsem) fun _ => .ret ()) :
    iprop(Ctx m c ∗ Mid m c t.val)
      ⊢ iprop((St m c (t.val + 1) -∗ Q ())
        -∗ WP c (if h3 : k0_cond3 t = 1#1 then k0_part36 xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 c v5 v8 v9 t (Scf.iv 0#32 1#32 t) h3 >>= P h3 else .ret ()) Q) := by
  have ht6 : t.val < 6 := t.isLt
  by_cases h3 : k0_cond3 t = 1#1
  · have ht : t.val < 4 := (cond3_iff t).mp h3
    rw [dif_pos h3]
    unfold Mid sndRes
    rw [mid_lt ht]
    iintro ⟨#HC, Hsl, ⟨HT, Hcr, Hw0, Hw1, Hx⟩, Hr, HO⟩ Hk
    ihave Hsl := (slots_take m c ht) $$ Hsl
    icases Hsl with ⟨Hsl, Hslw⟩
    ihave Hcr := (cred_take c ht) $$ Hcr
    icases Hcr with ⟨Hcr, Hcrw⟩
    ihave HT := (show bigSep (Finset.Ico (min t.val 4) 4) (TSP (F := F) c) ⊢ iprop(TSP (F := F) c t.val ∗ bigSep (Finset.Ico (min (t.val + 1) 4) 4) (TSP (F := F) c)) from by
      rw [min_eq_left (by omega : t.val ≤ 4), min_eq_left (by omega : t.val + 1 ≤ 4)]
      exact Entails.of_eq (bigSep_Ico_pop ht (TSP (F := F) c))) $$ HT
    unfold TSP
    icases HT with ⟨⟨HT0, HT1⟩, HT⟩
    iapply (wp_product m c t h3 v5 v8 v9) $$ [Hsl Hcr HT0 HT1 Hw0 Hw1 Hx HO]
    · isplitr; · iexact HC
      unfold sendIn
      isplitl [Hsl]; · iexact Hsl
      isplitl [Hcr]; · iexact Hcr
      isplitl [HT0]; · iexact HT0
      isplitl [HT1]; · iexact HT1
      isplitl [Hw0]; · iexact Hw0
      isplitl [Hw1]; · iexact Hw1
      isplitl [Hx] <;> iassumption
    iintro %v ⟨Hs0, Hv, Hat, #Hr1, HT1, Hcr, Hw0, Hw1, Hx, HO⟩
    obtain ⟨hd, hh, hh', hsc, hsrc, hdst, hsem, e⟩ := hP h3 v
    iapply (Entails.of_eq (congrArg (fun p => WP c p Q) e.symm))
    ihave Hcr := (grantIf_of c t.val 1 (by decide)) $$ Hcr
    icases Hcr with ⟨Hcr, Hg⟩
    iapply (wp_sendOff m c (k := 2 * t.val + 1) (by omega) (dev5_eq c _) (send_sem (sem_odd t)) (recv_sem (sem_odd t)) (slot_odd t) (slot_odd t)) $$ [Hv Hat HT1 Hg HO]
    · isplitr; · iexact HC
      isplitl [Hv]; · iexact Hv
      isplitl [Hat]; · iexact Hat
      isplitr; · iexact Hr1
      isplitl [HT1]; · iexact HT1
      isplitl [Hg]; · iexact Hg
      iapply (Entails.of_eq (congrArg (OW (F := F) c) (show posS (2 * t.val) + 1 = posS (2 * t.val + 1) from by
        have : ∀ j < 4, posS (2 * j) + 1 = posS (2 * j + 1) := by decide
        exact this _ ht)))
      iexact HO
    iintro ⟨Hs1, HO⟩
    iapply (wp_done c)
    iapply Hk
    unfold St sndRes TSP
    isplitl [Hslw Hs0 Hs1]
    · iapply Hslw
      unfold sentP
      isplitl [Hs0] <;> iassumption
    isplitl [HT Hcr Hcrw Hw0 Hw1 Hx]
    · isplitl [HT]; · iexact HT
      isplitl [Hcr Hcrw]
      · iapply Hcrw; iexact Hcr
      isplitl [Hw0]; · iexact Hw0
      isplitl [Hw1] <;> iassumption
    isplitl [Hr]; · iexact Hr
    iapply (Entails.of_eq (congrArg (OW (F := F) c) (pos_succ ht)))
    iexact HO
  · have ht : 4 ≤ t.val := by
      by_contra hh
      exact h3 ((cond3_iff t).mpr (by omega))
    rw [dif_neg h3]
    have e : Mid m c t.val = St m c (t.val + 1) := by
      unfold Mid St sndSlots sndRes
      rw [mid_ge ht ht6, min_eq_right (by omega : 2 ≤ t.val), min_eq_right (by omega : 2 ≤ t.val + 1), min_eq_right ht, min_eq_right (by omega : 4 ≤ t.val + 1)]
    rw [e]
    iintro ⟨#HC, H⟩ Hk
    iapply (wp_done c)
    iapply Hk
    iexact H

theorem pay2_pay1 (w : Vec F S1x128x16384 .bf16) : k0_pay2 (F := F) (k0_pay1 w) = k0_pay3 w := rfl
theorem pay7_eq : k0_pay7 (F := F) = k0_pay3 := rfl
theorem pay8_eq : k0_pay8 (F := F) = k0_pay3 := rfl
theorem pay10_eq : k0_pay10 (F := F) = k0_pay5 := rfl
theorem pay11_eq (e₁ e₂ e₄ : Vec F S1x128x16384 .bf16) : k0_pay11 e₁ e₂ e₄ = k0_pay6 (k0_pay4 e₁ e₂) e₄ := rfl

set_option maxRecDepth 65536 in
set_option maxHeartbeats 4000000 in
/-- The half that finishes the two chunks of trip `t - 2`. -/
theorem wp_trip (c : Dev nD) (t : Fin k0_t1_loop.trips) (v5 v8 v9 : BitVec 32) {Q : Unit → sProp 𝕄} :
    iprop(Ctx m c ∗ St m c t.val)
      ⊢ iprop((St m c (t.val + 1) -∗ Q ()) -∗ WP c (k0_t1_body xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 c v5 v8 v9 t ()) Q) := by
  have ht6 : t.val < 6 := t.isLt
  unfold k0_t1_body
  by_cases h1 : k0_cond1 t = 1#1
  · have h : 2 ≤ t.val := (cond1_iff t).mp h1
    simp only [dif_pos h1, k0_part2_eq_skeleton, k0_part2_skel, k0_part3_eq_skeleton, k0_part3_skel, k0_part4_eq_skeleton, k0_part4_skel, k0_part5_eq_skeleton, k0_part5_skel, Prog.lift, Prog.bind_op, Prog.bind_ret, Prog.pure_eq_ret, bind_assoc, semSignalWord, pay7_eq, pay8_eq, pay10_eq, pay11_eq]
    rw [show St m c t.val = iprop(sndSlots m c t.val ∗ sndRes m c t.val ∗ rcvSt m c (t.val - 2) ∗ OW c (posC (2 * (t.val - 2)))) from by
      unfold St pos; rw [if_neg (by omega)]]
    unfold rcvSt
    iintro ⟨#HC, Hsl, Hres, ⟨Hrc, Hat, Hout, #Hrel, Hkp⟩, HO⟩ Hk
    ihave Hrc := (Entails.of_eq (bigSep_Ico_pop (by omega : t.val - 2 < 4) (rcvP (F := F) c))) $$ Hrc
    unfold rcvP
    icases Hrc with ⟨⟨Hr0, Hr1⟩, Hrc⟩
    ihave Hat := (Entails.of_eq (bigSep_Ico_pop (by omega : t.val - 2 < t.val - 2 + 2) (atP (F := F) c))) $$ Hat
    unfold atP
    icases Hat with ⟨⟨Hat0, Hat1⟩, Hat⟩
    unfold rcv
    icases Hr0 with ⟨Hc0, Hg0, Hd0⟩
    icases Hr1 with ⟨Hc1, Hg1, Hd1⟩
    ihave Hsl := (slots_focus m c h ht6) $$ Hsl
    unfold sentP sent
    icases Hsl with ⟨⟨⟨Hs0, Hs0'⟩, ⟨Hs1, Hs1'⟩⟩, Hslw⟩
    iapply (wp_first m c t h1 v5 v8 v9) $$ [Hc0 Hat0 Hout Hs0 HO]
    · isplitr; · iexact HC
      isplitl [Hc0 Hat0]
      · unfold arrIn; isplitl [Hc0] <;> iassumption
      isplitl [Hout]; · iexact Hout
      isplitl [Hs0] <;> iassumption
    iintro ⟨Har0, Hout, Hs0, HO⟩ %v %hv
    simp only [hv, pay2_pay1]
    unfold arrOut outIdle
    icases Har0 with ⟨Hp0, Hat0, #Hre0⟩
    icases Hout with ⟨Ho0, Ho1, Hv0, Hv1, Hv⟩
    iapply (wp_softmax m c (k := 2 * (t.val - 2)) (rslot_even t h) rfl rfl) $$ [Hp0 Ho0 Ho1]
    · isplitl [Hp0]; · iexact Hp0
      isplitl [Ho0] <;> iassumption
    iintro ⟨Hp0, Ho0, Ho1⟩
    iapply (wp_giveBack m c (k := 2 * (t.val - 2)) (by omega) (dev2_eq c _) rfl rfl) $$ [Hg0 Hp0 Hd0 HO]
    · isplitr; · iexact HC
      isplitr; · iexact Hrel
      isplitl [Hg0]; · iexact Hg0
      isplitl [Hp0]; · iexact Hp0
      isplitr; · iexact Hre0
      isplitl [Hd0] <;> iassumption
    iintro ⟨#Hrel1, Hk0, HO⟩
    iapply (wp_outStart2 m c (k := 2 * (t.val - 2)) rfl rfl rfl (out_even0 c t h) rfl (out_even1 c t h)) $$ [Ho0 Ho1 Hv0 Hv1 Hv]
    · isplitl [Ho0]; · iexact Ho0
      isplitl [Ho1]; · iexact Ho1
      isplitl [Hv0]; · iexact Hv0
      isplitl [Hv1] <;> iassumption
    iintro Hout
    rw [posC_succ (by omega : t.val - 2 < 4)]
    iapply (wp_arrive m c (k := 2 * (t.val - 2) + 1) (by omega) (recv_sem (rsem_odd t h)) rfl) $$ [Hc1 Hat1 HO]
    · isplitr; · iexact HC
      isplitl [Hc1 Hat1]
      · unfold arrIn; isplitl [Hc1] <;> iassumption
      iassumption
    iintro ⟨Har1, HO⟩
    unfold arrOut
    icases Har1 with ⟨Hp1, Hat1, #Hre1⟩
    ihave #Hlev := (Ctx_lev m c) $$ HC
    iapply (wp_outWait2 m c (k := 2 * (t.val - 2)) rfl rfl rfl rfl) $$ [Hout HO]
    · isplitr; · iexact Hlev
      isplitl [Hout] <;> iassumption
    iintro ⟨Hout, HO⟩
    unfold outIdle
    icases Hout with ⟨Ho0, Ho1, Hv0, Hv1, Hv⟩
    iapply (wp_sLoad m c (rslot_odd t h)) $$ Hs1; iintro Hs1
    iapply (wp_softmax m c (k := 2 * (t.val - 2) + 1) (rslot_odd t h) rfl rfl) $$ [Hp1 Ho0 Ho1]
    · isplitl [Hp1]; · iexact Hp1
      isplitl [Ho0] <;> iassumption
    iintro ⟨Hp1, Ho0, Ho1⟩
    iapply (wp_giveBack m c (k := 2 * (t.val - 2) + 1) (by omega) (dev3_eq c _) rfl rfl) $$ [Hg1 Hp1 Hd1 HO]
    · isplitr; · iexact HC
      isplitr; · iexact Hrel1
      isplitl [Hg1]; · iexact Hg1
      isplitl [Hp1]; · iexact Hp1
      isplitr; · iexact Hre1
      isplitl [Hd1] <;> iassumption
    iintro ⟨#Hrel2, Hk1, HO⟩
    iapply (wp_outStart2 m c (k := 2 * (t.val - 2) + 1) rfl rfl rfl (out_odd0 c t h) rfl (out_odd1 c t h)) $$ [Ho0 Ho1 Hv0 Hv1 Hv]
    · isplitl [Ho0]; · iexact Ho0
      isplitl [Ho1]; · iexact Ho1
      isplitl [Hv0]; · iexact Hv0
      isplitl [Hv1] <;> iassumption
    iintro Hout
    iapply (wp_sends m c t v5 v8 v9 (fun h3 v => ⟨_, _, _, _, _, _, _, rfl⟩)) $$ [Hslw Hs0 Hs0' Hs1 Hs1' Hres Hrc Hat Hat0 Hat1 Hout Hkp Hk0 Hk1 HO]
    · isplitr; · iexact HC
      unfold Mid
      isplitl [Hslw Hs0 Hs0' Hs1 Hs1']
      · iapply Hslw
        isplitl [Hs0 Hs0']
        · isplitl [Hs0] <;> iassumption
        · isplitl [Hs1] <;> iassumption
      isplitl [Hres]; · iexact Hres
      rw [show t.val + 1 - 2 = t.val - 2 + 1 by omega]
      isplitr [HO]
      · unfold rcvSt
        isplitl [Hrc]; · iexact Hrc
        isplitl [Hat Hat0 Hat1]
        · iapply (Entails.of_eq (bigSep_Ico_push (by omega : t.val - 2 + 1 ≤ t.val - 2 + 2) (atP (F := F) c)).symm)
          isplitl [Hat0 Hat1]
          · unfold atP
            isplitl [Hat0] <;> iassumption
          · iexact Hat
        isplitl [Hout]
        · unfold outSt
          rw [if_neg (by omega)]
          iexact Hout
        isplitr; · iexact Hrel2
        iapply (Entails.of_eq (bigSep_Ico_push (Nat.zero_le (t.val - 2)) (keptP (F := F) c)).symm)
        isplitl [Hk0 Hk1]
        · unfold keptP
          isplitl [Hk0] <;> iassumption
        · iexact Hkp
      · unfold mid
        rw [if_neg (by omega)]
        iexact HO
    iexact Hk
  · have h : t.val < 2 := by
      by_contra hh
      exact h1 ((cond1_iff t).mpr (by omega))
    simp only [dif_neg h1, Prog.lift, Prog.bind_op, Prog.bind_ret, Prog.pure_eq_ret, bind_assoc]
    have e : St m c t.val = Mid m c t.val := by
      unfold St Mid pos mid
      rw [if_pos h, if_pos h, show t.val - 2 = t.val + 1 - 2 by omega]
    rw [e]
    exact wp_sends m c t v5 v8 v9 (fun h3 v => ⟨_, _, _, _, _, _, _, rfl⟩)

end Cert.SoftmaxProof
-- ==== Proof.Body.lean ====
/-
The kernel's body, from what a device holds at its start to the finished result.
-/
module

public import proofs.«01_k».proof.Proof.Trip
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts from and ends with -/

/-- What is known of the cells and slots at the start. -/
def Start (c : Dev nD) : sProp 𝕄 :=
  iprop(Ctx m c ∗ CI m (barCell c) ∗ CI m (barCell (peer c)) ∗ reached ER (barCell (peer c)) 0 ∗ bigSep (Finset.range 4) fun s => reached ER (recvCell c s) 0)
instance Start_persistent (c) : BI.Persistent (Start (F := F) m c) := by unfold Start; infer_instance

/-- The tokens and credit of chunk `k`. -/
def dealt (c : Dev nD) (k : ℕ) : sProp 𝕄 :=
  iprop(toks (F := F) c k ∗ rcv (F := F) c k ∗ if k < 4 then iprop(emp) else writeTok ES (key (peer c) k) 1)
/-- The positions of the two cells of slot `s`. -/
def places (c : Dev nD) (s : ℕ) : sProp 𝕄 :=
  iprop((atPos ER (sendCell c s) (s / 4) ∅ 0 ∗ reached ER (sendCell c s) (s / 4)) ∗ atPos ER (recvCell c s) (s / 4) ∅ 0)
def sendAny (c : Dev nD) (k : ℕ) : sProp 𝕄 := iprop(∃ f, sendPts (F := F) c k fullShare f)
/-- The device's own part of the memory, with the first `n` row blocks of the result done. -/
def bufs (c : Dev nD) (n : ℕ) : sProp 𝕄 :=
  iprop((bigSep (Finset.range 4) fun s => recvAny (F := F) c s) ∗ (bigSep (Finset.range 4) fun s => sendAny (F := F) c s) ∗ wIdle m c 0 ∗ wIdle m c 1 ∗ xPts m c ∗ outIdle m c n)
def bodyIn (c : Dev nD) : sProp 𝕄 :=
  iprop(Start m c ∗ atPos ER (barCell c) 0 ∅ 0 ∗ dutyTok ER (barCell (peer c)) 0 0 ∗ cred (tallyAt (barCell c) 0 1)
    ∗ (bigSep (Finset.range 8) fun k => dealt (F := F) c k) ∗ (bigSep (Finset.range 4) fun s => places (F := F) c s) ∗ credSt (F := F) c 0 ∗ bufs m c 0)
/-- The cells' counters, back at zero. -/
def closed (c : Dev nD) : sProp 𝕄 :=
  iprop((bigSep (Finset.range 4) fun s => iprop(semVal (sendCell c s) 0 ∗ semVal (recvCell c s) 0)) ∗ semVal (creditCell c) 0 ∗ semVal (barCell c) 0)

/-! ## The start -/

theorem pair_up {M : Type} [URA M] (A B C : sProp M) : iprop(B ∗ A ∗ C) = iprop((A ∗ B) ∗ C) :=
  Entails.antisymm
    (show iprop(B ∗ A ∗ C) ⊢ iprop((A ∗ B) ∗ C) from by
      iintro ⟨H1, H0, H⟩
      isplitl [H0 H1]
      · isplitl [H0] <;> iassumption
      · iexact H)
    (show iprop((A ∗ B) ∗ C) ⊢ iprop(B ∗ A ∗ C) from by
      iintro ⟨⟨H0, H1⟩, H⟩
      isplitl [H1]; · iexact H1
      isplitl [H0] <;> iassumption)

theorem bigSep_pairs {M : Type} [URA M] (Φ : ℕ → sProp M) : ∀ n, bigSep (Finset.range (2 * n)) Φ = bigSep (Finset.Ico 0 n) fun i => iprop(Φ (2 * i) ∗ Φ (2 * i + 1))
  | 0 => by rw [Nat.mul_zero, Finset.range_zero, Finset.Ico_self]; rfl
  | n + 1 => by
    have h := bigSep_pairs Φ n
    rw [Finset.range_eq_Ico] at h ⊢
    rw [show 2 * (n + 1) = 2 * n + 1 + 1 by omega, bigSep_Ico_push (Nat.zero_le _), bigSep_Ico_push (Nat.zero_le _), bigSep_Ico_push (Nat.zero_le n), h]
    exact pair_up _ _ _

theorem dealt_low (c : Dev nD) {k : ℕ} (h : k < 4) : iprop(dealt (F := F) c k ∗ recvAny (F := F) (peer c) k) ⊢ iprop(TS (F := F) c k ∗ rcv (F := F) c k) := by
  unfold dealt TS
  rw [if_pos h, if_pos h]
  iintro ⟨⟨Ht, Hv, -⟩, Hr⟩
  isplitr [Hv]
  · isplitl [Ht] <;> iassumption
  · iexact Hv
theorem dealt_high (c : Dev nD) {k : ℕ} (h : ¬ k < 4) : dealt (F := F) c k ⊢ iprop(TS (F := F) c k ∗ rcv (F := F) c k) := by
  unfold dealt TS
  rw [if_neg h, if_neg h]
  iintro ⟨Ht, Hv, Hw⟩
  isplitr [Hv]
  · isplitl [Ht] <;> iassumption
  · iexact Hv
theorem places_slot (c : Dev nD) (s : ℕ) : iprop(places (F := F) c s ∗ sendAny (F := F) c s) ⊢ iprop(freeSlot (F := F) c s ∗ atPos ER (recvCell c s) (s / 4) ∅ 0) := by
  unfold places freeSlot sendAny
  iintro ⟨⟨⟨Ha, Hr⟩, Hv⟩, Hs⟩
  isplitr [Hv]
  · isplitl [Hs]; · iexact Hs
    isplitl [Ha] <;> iassumption
  · iexact Hv
theorem recv_only (c : Dev nD) (s : ℕ) : iprop(recvAny (F := F) c s ∗ reached ER (recvCell c s) 0) ⊢ recvAny (F := F) c s := by
  iintro ⟨H, -⟩
  iexact H

theorem dealt_TS (c : Dev nD) :
    iprop((bigSep (Finset.range 8) fun k => dealt (F := F) c k) ∗ bigSep (Finset.range 4) fun s => recvAny (F := F) (peer c) s)
      ⊢ bigSep (Finset.range 8) fun k => iprop(TS (F := F) c k ∗ rcv (F := F) c k) := by
  have hs : Finset.range 4 ⊆ Finset.range 8 := by decide
  rw [bigSep_split_sub hs, bigSep_split_sub hs (fun k => iprop(TS (F := F) c k ∗ rcv (F := F) c k))]
  iintro ⟨⟨Ha, Hb⟩, Hr⟩
  isplitl [Ha Hr]
  · iapply (show iprop((bigSep (Finset.range 4) fun k => dealt (F := F) c k) ∗ bigSep (Finset.range 4) fun s => recvAny (F := F) (peer c) s)
        ⊢ bigSep (Finset.range 4) fun k => iprop(TS (F := F) c k ∗ rcv (F := F) c k) from by
      rw [← bigSep_sep']
      exact bigSep_mono fun k hk => dealt_low c (Finset.mem_range.mp hk))
    isplitl [Ha] <;> iassumption
  · iapply (show (bigSep (Finset.range 8 \ Finset.range 4) fun k => dealt (F := F) c k)
        ⊢ bigSep (Finset.range 8 \ Finset.range 4) fun k => iprop(TS (F := F) c k ∗ rcv (F := F) c k) from by
      exact bigSep_mono fun k hk => dealt_high c fun h => (Finset.mem_sdiff.mp hk).2 (Finset.mem_range.mpr h))
    iexact Hb

theorem places_free (c : Dev nD) :
    iprop((bigSep (Finset.range 4) fun s => places (F := F) c s) ∗ bigSep (Finset.range 4) fun s => sendAny (F := F) c s)
      ⊢ iprop(bigSep (Finset.Ico 0 2) (freeP (F := F) c) ∗ bigSep (Finset.Ico 0 2) (atP (F := F) c)) := by
  have e : iprop(bigSep (Finset.Ico 0 2) (freeP (F := F) c) ∗ bigSep (Finset.Ico 0 2) (atP (F := F) c))
      = iprop((bigSep (Finset.range 4) fun s => freeSlot (F := F) c s) ∗ bigSep (Finset.range 4) fun s => atPos ER (recvCell c s) (s / 4) ∅ 0) := by
    rw [show (4 : ℕ) = 2 * 2 from rfl, bigSep_pairs, bigSep_pairs]; rfl
  rw [e, ← bigSep_sep', ← bigSep_sep']
  exact bigSep_mono fun s _ => places_slot c s

theorem St_start (c : Dev nD) :
    iprop((bigSep (Finset.range 8) fun k => dealt (F := F) c k) ∗ (bigSep (Finset.range 4) fun s => places (F := F) c s) ∗ credSt (F := F) c 0
        ∗ (bigSep (Finset.range 4) fun s => sendAny (F := F) c s) ∗ wIdle m c 0 ∗ wIdle m c 1 ∗ xPts m c ∗ outIdle m c 0
        ∗ (bigSep (Finset.range 4) fun s => recvAny (F := F) (peer c) s) ∗ OW c 1)
      ⊢ St m c 0 := by
  unfold St
  iintro ⟨Hd, Hp, Hc, Hs, Hw0, Hw1, Hx, Ho, Hr, HO⟩
  ihave Hd := (dealt_TS c) $$ [Hd Hr]
  · isplitl [Hd] <;> iassumption
  ihave Hd := (show (bigSep (Finset.range 8) fun k => iprop(TS (F := F) c k ∗ rcv (F := F) c k))
      ⊢ iprop(bigSep (Finset.Ico 0 4) (TSP (F := F) c) ∗ bigSep (Finset.Ico 0 4) (rcvP (F := F) c)) from by
    rw [bigSep_sep', show (8 : ℕ) = 2 * 4 from rfl, bigSep_pairs, bigSep_pairs]; exact .rfl) $$ Hd
  icases Hd with ⟨Ht, Hv⟩
  ihave Hp := (places_free c) $$ [Hp Hs]
  · isplitl [Hp] <;> iassumption
  icases Hp with ⟨Hf, Ha⟩
  isplitl [Hf]
  · unfold sndSlots
    isplitl [Hf]; · iexact Hf
    iapply (show (emp : sProp 𝕄) ⊢ bigSep (Finset.Ico 0 0) (sentP m c) from by rw [Finset.Ico_self]; exact .rfl)
    iempintro
  isplitl [Ht Hc Hw0 Hw1 Hx]
  · unfold sndRes
    isplitl [Ht]; · iexact Ht
    isplitl [Hc]; · iexact Hc
    isplitl [Hw0]; · iexact Hw0
    isplitl [Hw1] <;> iassumption
  isplitl [Hv Ha Ho]
  · unfold rcvSt
    isplitl [Hv]; · iexact Hv
    isplitl [Ha]; · iexact Ha
    isplitl [Ho]; · iapply (Entails.of_eq (show outIdle m c 0 = outSt m c (2 * (0 - 2)) from (if_pos rfl).symm)); iexact Ho
    isplitl []
    · iapply (show (emp : sProp 𝕄) ⊢ rels (F := F) c 0 from by unfold rels; exact .rfl)
      iempintro
    · iapply (show (emp : sProp 𝕄) ⊢ bigSep (Finset.Ico 0 0) (keptP (F := F) c) from by rw [Finset.Ico_self]; exact .rfl)
      iempintro
  iexact HO

/-! ## The barrier -/

theorem wp_barSignal (c : Dev nD) {d : Dev nD} (hd : d = peer c) {sem : Sem sig} (hs : sem = barSem) {w : ℤ} (hw : w = ((1 : ℕ) : ℤ))
    {α : Type} {kk : PUnit → Prog (TpuEff nD τ sig (Elt F) Λ₀ .tc) α} {Q : α → sProp 𝕄} :
    iprop(Start m c ∗ dutyTok ER (barCell (peer c)) 0 0 ∗ (bigSep (Finset.range 4) fun s => recvAny (F := F) c s) ∗ OW c 0)
      ⊢ iprop((OW c 1 -∗ WP c (kk ⟨⟩) Q) -∗ WP c (.op (.semSignal (d, .tc) sem w) kk) Q) := by
  subst hd hs hw
  unfold Start CI OW
  iintro ⟨⟨-, -, ⟨%κ, #HI⟩, #Hr, #Hrs⟩, Ht, Hp, ⟨%W, HO⟩⟩ Hk
  iapply (Rounds.wp_signal 𝒱₀ ER (ringRd m) (c : Thread nD τ) none (dst := (peer c : Thread nD τ)) (κ := κ) (r := 0) (d := 0)
      (by rw [duties_bar]; exact Finset.mem_singleton_self _) rfl 0 (owed c 1) (owed_bar c)) $$ [HO Ht Hp]
  · isplitr; · iexact HI
    isplitl [HO]; · iexact HO
    isplitl [Ht]; · iexact Ht
    isplitl [Hp]
    · rw [payload_bar]
      unfold barPay
      rw [peer_peer, bigSep_sep']
      isplitl [Hp]; · iexact Hp
      iexact Hrs
    iexact Hr
  iintro HO
  iapply Hk
  iexists W; iexact HO

theorem wp_barWait (c : Dev nD) {sem : Sem sig} (hs : sem = barSem) {w : ℤ} (hw : w = ((1 : ℕ) : ℤ))
    {α : Type} {kk : PUnit → Prog (TpuEff nD τ sig (Elt F) Λ₀ .tc) α} {Q : α → sProp 𝕄} :
    iprop(Start m c ∗ cred (tallyAt (barCell c) 0 1) ∗ atPos ER (barCell c) 0 ∅ 0 ∗ OW c 1)
      ⊢ iprop((atPos ER (barCell c) 1 ∅ 0 ∗ (bigSep (Finset.range 4) fun s => recvAny (F := F) (peer c) s) ∗ OW c 1 -∗ WP c (kk ⟨⟩) Q)
        -∗ WP c (.op (.semWait sem w) kk) Q) := by
  subst hs hw
  unfold Start CI OW
  iintro ⟨⟨#HC, ⟨%κ, #HI⟩, -⟩, Hc, Hat, ⟨%W, HO⟩⟩ Hk
  ihave #Hlev := (Ctx_lev m c) $$ HC
  iapply (Rounds.wp_wait_rest_token 𝒱₀ ER (ringRd m) (c : Thread nD τ) none (κ := κ)
      (wpE_semWait_eq 𝒱₀ (c : Thread nD τ) none Set.univ) (Set.mem_univ _) 0 (O := owed c 1) (W := W) (R := 0) (m := 0) (T := ∅)
      (by rw [expect_bar])) $$ [Hc HO Hat]
  · isplitr; · iexact HI
    isplitl [Hc]; · iexact Hc
    isplitl [HO]; · iexact HO
    isplitr; · iapply (mayWait c (.reg barSem) (ix := 0) (n := 1) (by decide) (by decide)); iexact Hlev
    iexact Hat
  iintro ⟨HO, Hat, -, Hpay⟩
  ihave Hp := (Entails.of_eq (rest_bar m c)) $$ Hpay
  iapply Hk
  isplitl [Hat]; · iexact Hat
  isplitl [Hp]
  · unfold barPay
    iapply (show (bigSep (Finset.range 4) fun s => iprop(recvAny (F := F) (peer c) s ∗ reached ER (recvCell (peer c) s) 0)) ⊢ bigSep (Finset.range 4) fun s => recvAny (F := F) (peer c) s from
      bigSep_mono fun s _ => recv_only (peer c) s)
    iexact Hp
  iexists _; iexact HO

/-! ## The end -/

theorem close (c : Dev nD) (g : GSem nD τ sig) {R : ℕ} (h : ∀ r, R ≤ r → (ringRd (F := F) m).duties g r = ∅) :
    iprop(CI m g ∗ atPos ER g R ∅ 0) ⊢ |={Set.univ}=> semVal g 0 := by
  unfold CI
  iintro ⟨⟨%κ, #HI⟩, Hat⟩
  iapply (Rounds.cell_close ER (ringRd m) (Set.mem_univ κ) (fun h => h) (R := R) h)
  isplitr; · iexact HI
  iexact Hat

theorem Ctx_send (c : Dev nD) (s : ℕ) : Ctx m c ⊢ CI m (sendCell c s) := by
  iintro H
  ihave H := (Ctx_at m c s) $$ H
  unfold ctxAt
  icases H with ⟨H, -⟩
  iexact H
theorem Ctx_recv (c : Dev nD) (s : ℕ) : Ctx m c ⊢ CI m (recvCell c s) := by
  iintro H
  ihave H := (Ctx_at m c s) $$ H
  unfold ctxAt
  icases H with ⟨-, H, -⟩
  iexact H
theorem Ctx_credit (c : Dev nD) : Ctx m c ⊢ CI m (creditCell c) := by
  unfold Ctx
  iintro ⟨-, -, H, -⟩
  iexact H

/-- The two cells of slot `s` after both its chunks. -/
theorem close_slot (c : Dev nD) (s : ℕ) (hs : s < 4) :
    iprop(Ctx m c ∗ freeSlot (F := F) c (s + 4 + 4) ∗ atPos ER (recvCell c (s + 4 + 4)) 2 ∅ 0)
      ⊢ |={Set.univ}=> iprop((semVal (sendCell c s) 0 ∗ semVal (recvCell c s) 0) ∗ sendAny (F := F) c s) := by
  unfold freeSlot sendAny sendCell recvCell sendPts
  rw [sendSem_mod, sendSem_mod, recvSem_mod, recvSem_mod, slotSet_mod, slotSet_mod, show (s + 4 + 4) / 4 = 2 by omega]
  iintro ⟨#HC, ⟨Hs, Hat, -⟩, Hr⟩
  imod (close m c (sendCell c s) (duties_later m _)) $$ [Hat] with Hz
  · isplitr; · iapply (Ctx_send m c s); iexact HC
    iexact Hat
  imod (close m c (recvCell c s) (duties_later m _)) $$ [Hr] with Hz'
  · isplitr; · iapply (Ctx_recv m c s); iexact HC
    iexact Hr
  imodintro
  isplitr [Hs]
  · isplitl [Hz] <;> iassumption
  · iexact Hs

theorem range4 {M : Type} [URA M] (Φ : ℕ → sProp M) : bigSep (Finset.range 4) Φ = iprop(Φ 0 ∗ Φ 1 ∗ Φ 2 ∗ Φ 3) :=
  bigSep_eq_bigSepL_of_eq [0, 1, 2, 3] (by decide) (by decide) Φ

theorem loop_trip (c : Dev nD) (t : Fin k0_t1_loop.trips) (v5 v8 v9 : BitVec 32) :
    iprop(Ctx m c ∗ St m c t.val) ⊢ WP c (k0_t1_body xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8 c v5 v8 v9 t ()) (fun _ => iprop(Ctx m c ∗ St m c (t.val + 1))) := by
  iintro ⟨#HC, H⟩
  iapply (wp_trip m c t v5 v8 v9) $$ [H]
  · isplitr; · iexact HC
    iexact H
  iintro H
  isplitr; · iexact HC
  iexact H

/-- The state after the last trip, taken apart. -/
theorem St_end (c : Dev nD) :
    St m c 6 ⊢ iprop((sent m c 4 ∗ sent m c 5 ∗ sent m c 6 ∗ sent m c 7) ∗ credSt (F := F) c 2 ∗ wIdle m c 0 ∗ wIdle m c 1 ∗ xPts m c
      ∗ (atPos ER (recvCell c 8) 2 ∅ 0 ∗ atPos ER (recvCell c 9) 2 ∅ 0 ∗ atPos ER (recvCell c 10) 2 ∅ 0 ∗ atPos ER (recvCell c 11) 2 ∅ 0)
      ∗ outBusy m c 7 ∗ (bigSep (Finset.range 4) fun s => recvAny (F := F) c s) ∗ OW c 17) := by
  have hs : sndSlots m c 6 ⊢ iprop(sent m c 4 ∗ sent m c 5 ∗ sent m c 6 ∗ sent m c 7) := by
    unfold sndSlots
    iintro ⟨-, H⟩
    ihave H := (show bigSep (Finset.Ico (min 6 4 - 2) (min 6 4)) (sentP m c) ⊢ iprop(sentP m c 2 ∗ sentP m c 3 ∗ bigSep (Finset.Ico 4 4) (sentP m c)) from by
      show bigSep (Finset.Ico 2 4) (sentP m c) ⊢ _
      rw [bigSep_Ico_pop (by decide : 2 < 4), bigSep_Ico_pop (by decide : 2 + 1 < 4)]) $$ H
    unfold sentP
    icases H with ⟨⟨H4, H5⟩, ⟨H6, H7⟩, -⟩
    isplitl [H4]; · iexact H4
    isplitl [H5]; · iexact H5
    isplitl [H6] <;> iassumption
  have ha : bigSep (Finset.Ico (6 - 2) (6 - 2 + 2)) (atP (F := F) c)
      ⊢ iprop(atPos ER (recvCell c 8) 2 ∅ 0 ∗ atPos ER (recvCell c 9) 2 ∅ 0 ∗ atPos ER (recvCell c 10) 2 ∅ 0 ∗ atPos ER (recvCell c 11) 2 ∅ 0) := by
    iintro H
    ihave H := (show bigSep (Finset.Ico (6 - 2) (6 - 2 + 2)) (atP (F := F) c) ⊢ iprop(atP (F := F) c 4 ∗ atP (F := F) c 5 ∗ bigSep (Finset.Ico 6 6) (atP (F := F) c)) from by
      show bigSep (Finset.Ico 4 6) (atP (F := F) c) ⊢ _
      rw [bigSep_Ico_pop (by decide : 4 < 6), bigSep_Ico_pop (by decide : 4 + 1 < 6)]) $$ H
    unfold atP
    icases H with ⟨⟨H4, H5⟩, ⟨H6, H7⟩, -⟩
    isplitl [H4]; · iexact H4
    isplitl [H5]; · iexact H5
    isplitl [H6] <;> iassumption
  have hk : bigSep (Finset.Ico 0 (6 - 2)) (keptP (F := F) c) ⊢ bigSep (Finset.range 4) fun s => recvAny (F := F) c s := by
    rw [show (4 : ℕ) = 2 * 2 from rfl, bigSep_pairs]
    iintro H
    ihave H := (show bigSep (Finset.Ico 0 (6 - 2)) (keptP (F := F) c) ⊢ iprop(keptP (F := F) c 0 ∗ keptP (F := F) c 1 ∗ keptP (F := F) c 2 ∗ keptP (F := F) c 3 ∗ bigSep (Finset.Ico 4 4) (keptP (F := F) c)) from by
      show bigSep (Finset.Ico 0 4) (keptP (F := F) c) ⊢ _
      rw [bigSep_Ico_pop (by decide : 0 < 4), bigSep_Ico_pop (by decide : 0 + 1 < 4), bigSep_Ico_pop (by decide : 0 + 1 + 1 < 4), bigSep_Ico_pop (by decide : 0 + 1 + 1 + 1 < 4)]) $$ H
    icases H with ⟨-, -, H2, H3, -⟩
    ihave H2 := (show keptP (F := F) c 2 ⊢ iprop(recvAny (F := F) c (2 * 0) ∗ recvAny (F := F) c (2 * 0 + 1)) from by
      rw [← recvAny_mod c (2 * 0), ← recvAny_mod c (2 * 0 + 1)]; exact .rfl) $$ H2
    ihave H3 := (show keptP (F := F) c 3 ⊢ iprop(recvAny (F := F) c (2 * 1) ∗ recvAny (F := F) c (2 * 1 + 1)) from by
      rw [← recvAny_mod c (2 * 1), ← recvAny_mod c (2 * 1 + 1)]; exact .rfl) $$ H3
    iapply (show iprop((recvAny (F := F) c (2 * 0) ∗ recvAny (F := F) c (2 * 0 + 1)) ∗ (recvAny (F := F) c (2 * 1) ∗ recvAny (F := F) c (2 * 1 + 1)) ∗ emp)
        ⊢ bigSep (Finset.Ico 0 2) fun i => iprop(recvAny (F := F) c (2 * i) ∗ recvAny (F := F) c (2 * i + 1)) from by
      rw [bigSep_Ico_pop (by decide : 0 < 2), bigSep_Ico_pop (by decide : 0 + 1 < 2)]; exact .rfl)
    isplitl [H2]; · iexact H2
    isplitl [H3]; · iexact H3
    iempintro
  unfold St sndRes rcvSt
  iintro ⟨Hs, ⟨-, Hc, Hw0, Hw1, Hx⟩, ⟨-, Ha, Ho, -, Hk⟩, HO⟩
  isplitl [Hs]; · iapply hs; iexact Hs
  isplitl [Hc]; · iexact Hc
  isplitl [Hw0]; · iexact Hw0
  isplitl [Hw1]; · iexact Hw1
  isplitl [Hx]; · iexact Hx
  isplitl [Ha]; · iapply ha; iexact Ha
  isplitl [Ho]; · iapply (Entails.of_eq (show outSt m c (2 * (6 - 2)) = outBusy m c 7 from if_neg (by decide))); iexact Ho
  isplitl [Hk]; · iapply hk; iexact Hk
  iexact HO

set_option maxRecDepth 65536 in
set_option maxHeartbeats 4000000 in
/-- The body. -/
theorem wp_body (c : Dev nD) {Q : PUnit → sProp 𝕄} :
    iprop(bodyIn m c ∗ OW c 0)
      ⊢ iprop((bufs m c 8 ∗ closed (F := F) c ∗ OW c 17 -∗ Q ⟨⟩) -∗ WP c (cc0__body xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8) Q) := by
  rw [cc0__body_eq_skeleton]
  unfold cc0__body_skel
  simp only [k0_part37_eq_skeleton, k0_part37_skel, k0_part38_eq_skeleton, k0_part38_skel, Prog.lift, Prog.bind_op, Prog.bind_ret, Prog.pure_eq_ret, bind_assoc, semSignalWord, semWaitWord, wp_deviceId, Scf.Loop.for]
  unfold bodyIn bufs
  iintro ⟨⟨#HS, Hat, Ht, Hc, Hd, Hp, Hcr, Hrv, Hsd, Hw0, Hw1, Hx, Ho⟩, HO⟩ Hk
  ihave #HC := (show Start m c ⊢ Ctx m c from by unfold Start; iintro ⟨H, -⟩; iexact H) $$ HS
  iapply (wp_barSignal m c (dev1_eq c _) rfl rfl) $$ [Ht Hrv HO]
  · isplitr; · iexact HS
    isplitl [Ht]; · iexact Ht
    isplitl [Hrv] <;> iassumption
  iintro HO
  iapply (wp_barWait m c rfl rfl) $$ [Hc Hat HO]
  · isplitr; · iexact HS
    isplitl [Hc]; · iexact Hc
    isplitl [Hat] <;> iassumption
  iintro ⟨Hbar, Hrv, HO⟩
  ihave HSt := (St_start m c) $$ [Hd Hp Hcr Hsd Hw0 Hw1 Hx Ho Hrv HO]
  · isplitl [Hd]; · iexact Hd
    isplitl [Hp]; · iexact Hp
    isplitl [Hcr]; · iexact Hcr
    isplitl [Hsd]; · iexact Hsd
    isplitl [Hw0]; · iexact Hw0
    isplitl [Hw1]; · iexact Hw1
    isplitl [Hx]; · iexact Hx
    isplitl [Ho]; · iexact Ho
    isplitl [Hrv] <;> iassumption
  iapply (Scf.wp_for_bind frame (wpE (defs₀ (F := F)) 𝒱₀ (c : Thread nD τ) none) Set.univ _ _ _ _ _ _ (fun j _ => iprop(Ctx m c ∗ St m c j))
    (fun t acc => loop_trip m c t _ _ _)) $$ [HSt]
  · isplitr; · iexact HC
    iexact HSt
  iintro %_ ⟨-, HSt⟩
  ihave HSt := (show St m c k0_t1_loop.trips ⊢ St m c 6 from .rfl) $$ HSt
  ihave HSt := (St_end m c) $$ HSt
  icases HSt with ⟨⟨Hs4, Hs5, Hs6, Hs7⟩, Hcr, Hw0, Hw1, Hx, ⟨Ha8, Ha9, Ha10, Ha11⟩, Ho, Hrv, HO⟩
  ihave #Hlev := (Ctx_lev m c) $$ HC
  ihave #HC0 := (Ctx_send m c 0) $$ HC
  ihave #HC1 := (Ctx_send m c 1) $$ HC
  ihave #HC2 := (Ctx_send m c 2) $$ HC
  ihave #HC3 := (Ctx_send m c 3) $$ HC
  iapply (wp_outWait2 m c (k := 7) rfl rfl rfl rfl) $$ [Ho HO]
  · isplitr; · iexact Hlev
    isplitl [Ho] <;> iassumption
  iintro ⟨Ho, HO⟩
  iapply (wp_sendWait m c (k := 4) (by decide) rfl rfl) $$ [Hs4 HO]
  · isplitr; · iexact HC0
    isplitr; · iexact Hlev
    isplitl [Hs4] <;> iassumption
  iintro ⟨Hs4, HO⟩
  iapply (wp_sendWait m c (k := 5) (by decide) rfl rfl) $$ [Hs5 HO]
  · isplitr; · iexact HC1
    isplitr; · iexact Hlev
    isplitl [Hs5] <;> iassumption
  iintro ⟨Hs5, HO⟩
  iapply (wp_sendWait m c (k := 6) (by decide) rfl rfl) $$ [Hs6 HO]
  · isplitr; · iexact HC2
    isplitr; · iexact Hlev
    isplitl [Hs6] <;> iassumption
  iintro ⟨Hs6, HO⟩
  iapply (wp_sendWait m c (k := 7) (by decide) rfl rfl) $$ [Hs7 HO]
  · isplitr; · iexact HC3
    isplitr; · iexact Hlev
    isplitl [Hs7] <;> iassumption
  iintro ⟨Hs7, HO⟩
  iapply (wp_creditLast m c rfl rfl) $$ [Hcr HO]
  · isplitr; · iapply (Ctx_credit m c); iexact HC
    isplitl [Hcr] <;> iassumption
  iintro ⟨Hcr, HO⟩
  imod (close_slot m c 0 (by decide)) $$ [Hs4 Ha8] with ⟨Hz0, Hf0⟩
  · isplitr; · iexact HC
    isplitl [Hs4] <;> iassumption
  imod (close_slot m c 1 (by decide)) $$ [Hs5 Ha9] with ⟨Hz1, Hf1⟩
  · isplitr; · iexact HC
    isplitl [Hs5] <;> iassumption
  imod (close_slot m c 2 (by decide)) $$ [Hs6 Ha10] with ⟨Hz2, Hf2⟩
  · isplitr; · iexact HC
    isplitl [Hs6] <;> iassumption
  imod (close_slot m c 3 (by decide)) $$ [Hs7 Ha11] with ⟨Hz3, Hf3⟩
  · isplitr; · iexact HC
    isplitl [Hs7] <;> iassumption
  imod (close m c (creditCell c) (duties_later_reg m c creditSem)) $$ [Hcr] with Hzc
  · isplitr; · iapply (Ctx_credit m c); iexact HC
    iexact Hcr
  imod (close m c (barCell c) (duties_later_reg m c barSem)) $$ [Hbar] with Hzb
  · isplitr; · iapply (show Start m c ⊢ CI m (barCell c) from by unfold Start; iintro ⟨-, H, -⟩; iexact H); iexact HS
    iexact Hbar
  iapply (wp_done c)
  iapply Hk
  isplitl [Hrv Hf0 Hf1 Hf2 Hf3 Hw0 Hw1 Hx Ho]
  · isplitl [Hrv]; · iexact Hrv
    isplitl [Hf0 Hf1 Hf2 Hf3]
    · iapply (Entails.of_eq (range4 (fun s => sendAny (F := F) c s)).symm)
      isplitl [Hf0]; · iexact Hf0
      isplitl [Hf1]; · iexact Hf1
      isplitl [Hf2] <;> iassumption
    isplitl [Hw0]; · iexact Hw0
    isplitl [Hw1]; · iexact Hw1
    isplitl [Hx] <;> iassumption
  isplitr [HO]
  · unfold closed
    isplitl [Hz0 Hz1 Hz2 Hz3]
    · iapply (Entails.of_eq (range4 (fun s => iprop(semVal (sendCell c s) 0 ∗ semVal (recvCell c s) 0))).symm)
      isplitl [Hz0]; · iexact Hz0
      isplitl [Hz1]; · iexact Hz1
      isplitl [Hz2] <;> iassumption
    isplitl [Hzc] <;> iassumption
  iexact HO

end Cert.SoftmaxProof
-- ==== Proof.Credits.lean ====
/-
The credit each device starts from: one per payment its peer owes.
-/
module

public import proofs.«01_k».proof.Proof.Body
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

def pe : Dev nD ≃ Dev nD := ⟨peer, peer, peer_peer, peer_peer⟩

/-- What a device owes at launch. -/
def O₀ (c : Dev nD) : CellTallies nD τ sig ℕ := owed c 0

/-- The credit of payment `n` of the peer. -/
def payCred (c : Dev nD) (n : ℕ) : sProp 𝕄 := cred (tallyAt ((c : Thread nD τ), (pay n).sem) (pay n).ix (pay n).amt)

theorem launch_pays (c : Dev nD) : (Pipeline.launchCred O₀ c : sProp 𝕄) ⊢ bigSep (Finset.Ico 0 17) fun n => payCred (F := F) c n :=
  (Entails.of_eq (Pipeline.launchCred_sum (Finset.Ico 0 17) (fun n d => payAt d n) c)).trans
    (bigSep_mono fun n _ => Pipeline.launchCred_tallyAt (pay n).sem peer peer peer_peer peer_peer (pay n).ix (pay n).amt c)

/-- The credits as the body takes them. -/
def creds (c : Dev nD) : sProp 𝕄 :=
  iprop(cred (tallyAt (barCell c) 0 1) ∗ (bigSep (Finset.range 8) fun k => cred (tallyAt (recvCell c k) (k / 4) N))
    ∗ bigSep (Finset.Ico 0 3) fun i => cred (tallyAt (creditCell c) i (if i < 2 then 2 else 4)))

theorem cred_two (c : Dev nD) (i a b : ℕ) : iprop(cred (tallyAt (creditCell c) i a) ∗ cred (tallyAt (creditCell c) i b)) ⊢ (cred (tallyAt (creditCell c) i (a + b)) : sProp 𝕄) :=
  (cred_add _ _).2.trans (Entails.of_eq (congrArg cred (tallyAt_add _ _ _ _)))

theorem range8 {M : Type} [URA M] (Φ : ℕ → sProp M) : bigSep (Finset.range 8) Φ = iprop(Φ 0 ∗ Φ 1 ∗ Φ 2 ∗ Φ 3 ∗ Φ 4 ∗ Φ 5 ∗ Φ 6 ∗ Φ 7) :=
  bigSep_eq_bigSepL_of_eq [0, 1, 2, 3, 4, 5, 6, 7] (by decide) (by decide) Φ
theorem range17 {M : Type} [URA M] (Φ : ℕ → sProp M) : bigSep (Finset.Ico 0 17) Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_eq_bigSepL_of_eq [0, 1, 2, 3, 4, 5, 6, 7, 8, 9, 10, 11, 12, 13, 14, 15, 16] (by decide) (by decide) Φ
theorem range3 {M : Type} [URA M] (Φ : ℕ → sProp M) : bigSep (Finset.Ico 0 3) Φ = iprop(Φ 0 ∗ Φ 1 ∗ Φ 2) :=
  bigSep_eq_bigSepL_of_eq [0, 1, 2] (by decide) (by decide) Φ

theorem pays_bar (c : Dev nD) : payCred (F := F) c 0 = cred (tallyAt (barCell c) 0 1) := rfl
theorem pays_snd (c : Dev nD) {k : ℕ} (h : k < 8) : payCred (F := F) c (posS k) = cred (tallyAt (recvCell c k) (k / 4) N) := by
  unfold payCred; rw [pay_posS h]; rfl
theorem pays_crd (c : Dev nD) {i : ℕ} (h : i < 8) : payCred (F := F) c (posC i) = cred (tallyAt (creditCell c) (crdIx i) 1) := by
  unfold payCred; rw [pay_posC h]; rfl

theorem creds_intro (c : Dev nD) : (Pipeline.launchCred O₀ c : sProp 𝕄) ⊢ creds (F := F) c := by
  iintro H
  ihave H := (launch_pays (F := F) c) $$ H
  ihave H := (Entails.of_eq (range17 (fun n => payCred (F := F) c n))) $$ H
  icases H with ⟨Hb, H0, H1, H2, H3, C0, C1, H4, H5, C2, C3, H6, H7, C4, C5, C6, C7⟩
  unfold creds
  isplitl [Hb]; · iapply (Entails.of_eq (pays_bar (F := F) c)); iexact Hb
  isplitl [H0 H1 H2 H3 H4 H5 H6 H7]
  · iapply (Entails.of_eq (range8 (fun k => (cred (tallyAt (recvCell c k) (k / 4) N) : sProp 𝕄))).symm)
    isplitl [H0]; · iapply (Entails.of_eq (pays_snd (F := F) c (k := 0) (by decide))); iexact H0
    isplitl [H1]; · iapply (Entails.of_eq (pays_snd (F := F) c (k := 1) (by decide))); iexact H1
    isplitl [H2]; · iapply (Entails.of_eq (pays_snd (F := F) c (k := 2) (by decide))); iexact H2
    isplitl [H3]; · iapply (Entails.of_eq (pays_snd (F := F) c (k := 3) (by decide))); iexact H3
    isplitl [H4]; · iapply (Entails.of_eq (pays_snd (F := F) c (k := 4) (by decide))); iexact H4
    isplitl [H5]; · iapply (Entails.of_eq (pays_snd (F := F) c (k := 5) (by decide))); iexact H5
    isplitl [H6]; · iapply (Entails.of_eq (pays_snd (F := F) c (k := 6) (by decide))); iexact H6
    iapply (Entails.of_eq (pays_snd (F := F) c (k := 7) (by decide))); iexact H7
  iapply (Entails.of_eq (range3 (fun i => (cred (tallyAt (creditCell c) i (if i < 2 then 2 else 4)) : sProp 𝕄))).symm)
  isplitl [C0 C1]
  · iapply (cred_two (F := F) c 0 1 1)
    isplitl [C0]
    · iapply (Entails.of_eq (pays_crd (F := F) c (i := 0) (by decide))); iexact C0
    · iapply (Entails.of_eq (pays_crd (F := F) c (i := 1) (by decide))); iexact C1
  isplitl [C2 C3]
  · iapply (cred_two (F := F) c 1 1 1)
    isplitl [C2]
    · iapply (Entails.of_eq (pays_crd (F := F) c (i := 2) (by decide))); iexact C2
    · iapply (Entails.of_eq (pays_crd (F := F) c (i := 3) (by decide))); iexact C3
  iapply (cred_two (F := F) c 2 2 2)
  isplitl [C4 C5]
  · iapply (cred_two (F := F) c 2 1 1)
    isplitl [C4]
    · iapply (Entails.of_eq (pays_crd (F := F) c (i := 4) (by decide))); iexact C4
    · iapply (Entails.of_eq (pays_crd (F := F) c (i := 5) (by decide))); iexact C5
  · iapply (cred_two (F := F) c 2 1 1)
    isplitl [C6]
    · iapply (Entails.of_eq (pays_crd (F := F) c (i := 6) (by decide))); iexact C6
    · iapply (Entails.of_eq (pays_crd (F := F) c (i := 7) (by decide))); iexact C7

end Cert.SoftmaxProof
-- ==== Proof.Buffers.lean ====
/-
The device's buffers: cut into slots when the kernel starts, whole again when it ends.
-/
module

public import proofs.«01_k».proof.Proof.Body
public import Idealize.ShloMosaic.Lib.Ring
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## Cutting and joining -/

section Cut
variable {ℓ : Loc nD τ sig} (n : ℕ) (I : ℕ → Finset (Idx ℓ)) (hd : ∀ a ∈ Finset.range n, ∀ b ∈ Finset.range n, a ≠ b → Disjoint (I a) (I b))
  (hc : (Finset.range n).biUnion I = Finset.univ)
include hd hc

theorem cut_one (f : Buf (Elt F) ℓ) : (ℓ ↦{fullShare} f : sProp 𝕄) ⊢ bigSep (Finset.range n) fun s => iprop(∃ g, ℓ ↦[I s]{fullShare} g) := by
  rw [← hc, pointsTo_biUnion _ _ hd]
  exact bigSep_mono fun s _ => exists_intro (Φ := fun g => (ℓ ↦[I s]{fullShare} g : sProp 𝕄)) f
theorem cut : iprop(∃ f, (ℓ ↦{fullShare} f : sProp 𝕄)) ⊢ bigSep (Finset.range n) fun s => iprop(∃ g, ℓ ↦[I s]{fullShare} g) := by
  iintro ⟨%f, H⟩
  iapply (cut_one n I hd hc f)
  iexact H

theorem join (f₀ : Buf (Elt F) ℓ) : (bigSep (Finset.range n) fun s => iprop(∃ g, (ℓ ↦[I s]{fullShare} g : sProp 𝕄))) ⊢ iprop(∃ f, ℓ ↦{fullShare} f) := by
  have : Nonempty (Buf (Elt F) ℓ) := ⟨f₀⟩
  iintro H
  ihave H := (BI.bigSep_exists_pi (Finset.range n) (fun s (g : Buf (Elt F) ℓ) => (ℓ ↦[I s]{fullShare} g : sProp 𝕄))) $$ H
  icases H with ⟨%fs, H⟩
  ihave H := (pointsTo_biUnion_join (Finset.range n) I fs f₀ hd) $$ H
  icases H with ⟨%g, -, H⟩
  iexists g
  iapply (Entails.of_eq (congrArg (fun S => (ℓ ↦[S]{fullShare} g : sProp 𝕄)) hc))
  iexact H
end Cut

theorem slots_disj (a : ℕ) (ha : a ∈ Finset.range 4) (b : ℕ) (hb : b ∈ Finset.range 4) (h : a ≠ b) : Disjoint (slotSet a) (slotSet b) := by
  rw [Finset.mem_range] at ha hb
  refine Finset.disjoint_left.mpr fun i hi hj => h ?_
  rw [mem_slotSet] at hi hj
  omega
theorem slots_all : (Finset.range 4).biUnion slotSet = Finset.univ := by
  ext i
  rw [Finset.mem_biUnion]
  have h : (i 0).val < 4 := (i 0).isLt
  exact ⟨fun _ => Finset.mem_univ _, fun _ => ⟨(i 0).val, Finset.mem_range.mpr h, mem_slotSet.2 (Nat.mod_eq_of_lt h).symm⟩⟩
theorem oSlots_disj (a : ℕ) (ha : a ∈ Finset.range 2) (b : ℕ) (hb : b ∈ Finset.range 2) (h : a ≠ b) : Disjoint (oSlotSet a) (oSlotSet b) := by
  rw [Finset.mem_range] at ha hb
  refine Finset.disjoint_left.mpr fun i hi hj => h ?_
  rw [mem_oSlotSet] at hi hj
  omega
theorem oSlots_all : (Finset.range 2).biUnion oSlotSet = Finset.univ := by
  ext i
  rw [Finset.mem_biUnion]
  have h : (i 0).val < 2 := (i 0).isLt
  exact ⟨fun _ => Finset.mem_univ _, fun _ => ⟨(i 0).val, Finset.mem_range.mpr h, mem_oSlotSet.2 (Nat.mod_eq_of_lt h).symm⟩⟩
theorem wSlots_disj (a : ℕ) (ha : a ∈ Finset.range 2) (b : ℕ) (hb : b ∈ Finset.range 2) (h : a ≠ b) : Disjoint (wSlotSet a) (wSlotSet b) := by
  rw [Finset.mem_range] at ha hb
  refine Finset.disjoint_left.mpr fun i hi hj => h ?_
  rw [mem_wSlotSet] at hi hj
  omega
theorem wSlots_all : (Finset.range 2).biUnion wSlotSet = Finset.univ := by
  ext i
  rw [Finset.mem_biUnion]
  have h : (i 0).val < 2 := (i 0).isLt
  exact ⟨fun _ => Finset.mem_univ _, fun _ => ⟨(i 0).val, Finset.mem_range.mpr h, mem_wSlotSet.2 (Nat.mod_eq_of_lt h).symm⟩⟩

/-! ## The whole buffers -/

/-- A buffer whole, at some contents. -/
abbrev wholeAny (c : Dev nD) (b : Ref sig .tc) : sProp 𝕄 := iprop(∃ f : Buf (Elt F) ((c : Thread nD τ).loc b), ((c : Thread nD τ).loc b) ↦{fullShare} f)
def scratch (c : Dev nD) : sProp 𝕄 :=
  iprop(wholeAny (F := F) c cc0_scratch0 ∗ wholeAny (F := F) c cc0_scratch1 ∗ wholeAny (F := F) c cc0_scratch2 ∗ wholeAny (F := F) c cc0_scratch3)
/-- The counters of the copies to and from main memory. -/
def locSems (c : Dev nD) : sProp 𝕄 :=
  iprop(semVal ((c : Thread nD τ), .dma (wSem 0)) 0 ∗ semVal ((c : Thread nD τ), .dma (wSem 1)) 0 ∗ oSv (F := F) c 0 ∗ oSv (F := F) c 1)
def wAll (c : Dev nD) : sProp 𝕄 := ((c : Thread nD τ).loc main_arg1) ↦{fullShare} wOf m c

theorem range2 {M : Type} [URA M] (Φ : ℕ → sProp M) : bigSep (Finset.range 2) Φ = iprop(Φ 0 ∗ Φ 1) :=
  bigSep_eq_bigSepL_of_eq [0, 1] (by decide) (by decide) Φ

theorem wAll_halves (c : Dev nD) : wAll m c = iprop(wPts m c 0 Finset.univ ∗ wPts m c 1 Finset.univ) :=
  BI.equiv_iff.mp ⟨(pointsTo_share (PosShare.mem_left_op_right fullShare)).1, (pointsTo_share (PosShare.mem_left_op_right fullShare)).2⟩

theorem mix_zero (c : Dev nD) : mix m c 0 = m ((c : Thread nD τ).loc main_v1) := funext fun i => if_neg (by omega)
theorem mix_all (c : Dev nD) : mix m c 8 = res m c := funext fun i => if_pos (by have h : (i 0).val < 1024 := (i 0).isLt; omega)

theorem cut0 (c : Dev nD) : wholeAny (F := F) c cc0_scratch0 ⊢ bigSep (Finset.range 4) fun s => sendAny (F := F) c s := cut (ℓ := (c : Thread nD τ).loc cc0_scratch0) 4 slotSet slots_disj slots_all
include m in theorem join0 (c : Dev nD) : (bigSep (Finset.range 4) fun s => sendAny (F := F) c s) ⊢ wholeAny (F := F) c cc0_scratch0 := join (ℓ := (c : Thread nD τ).loc cc0_scratch0) 4 slotSet slots_disj slots_all (lgBuf m c 0)
theorem cut1 (c : Dev nD) : wholeAny (F := F) c cc0_scratch1 ⊢ bigSep (Finset.range 4) fun s => recvAny (F := F) c s := cut (ℓ := (c : Thread nD τ).loc cc0_scratch1) 4 slotSet slots_disj slots_all
include m in theorem join1 (c : Dev nD) : (bigSep (Finset.range 4) fun s => recvAny (F := F) c s) ⊢ wholeAny (F := F) c cc0_scratch1 := join (ℓ := (c : Thread nD τ).loc cc0_scratch1) 4 slotSet slots_disj slots_all (lgBuf m c 0)
theorem cut2 (c : Dev nD) : wholeAny (F := F) c cc0_scratch2 ⊢ bigSep (Finset.range 2) fun s => oAny (F := F) c s := cut (ℓ := (c : Thread nD τ).loc cc0_scratch2) 2 oSlotSet oSlots_disj oSlots_all
include m in theorem join2 (c : Dev nD) : (bigSep (Finset.range 2) fun s => oAny (F := F) c s) ⊢ wholeAny (F := F) c cc0_scratch2 := join (ℓ := (c : Thread nD τ).loc cc0_scratch2) 2 oSlotSet oSlots_disj oSlots_all (oBuf (blk m c 0 0))
theorem cut3 (c : Dev nD) : wholeAny (F := F) c cc0_scratch3 ⊢ bigSep (Finset.range 2) fun s => iprop(∃ f, bPts (F := F) c s f) := cut (ℓ := (c : Thread nD τ).loc cc0_scratch3) 2 wSlotSet wSlots_disj wSlots_all
include m in theorem join3 (c : Dev nD) : (bigSep (Finset.range 2) fun s => iprop(∃ f, bPts (F := F) c s f)) ⊢ wholeAny (F := F) c cc0_scratch3 := join (ℓ := (c : Thread nD τ).loc cc0_scratch3) 2 wSlotSet wSlots_disj wSlots_all (wBuf (wOf m c) 0)

theorem bufs_in (c : Dev nD) :
    iprop(scratch (F := F) c ∗ locSems (F := F) c ∗ wAll m c ∗ xPts m c ∗ vPts c Finset.univ (m ((c : Thread nD τ).loc main_v1))) ⊢ bufs m c 0 := by
  unfold scratch locSems bufs wIdle outIdle
  rw [wAll_halves, mix_zero]
  iintro ⟨⟨H0, H1, H2, H3⟩, ⟨Hw0, Hw1, Ho0, Ho1⟩, ⟨HW0, HW1⟩, Hx, Hv⟩
  ihave H0 := (cut0 (F := F) c) $$ H0
  ihave H1 := (cut1 (F := F) c) $$ H1
  ihave H2 := (cut2 (F := F) c) $$ H2
  ihave H3 := (cut3 (F := F) c) $$ H3
  ihave H2 := (Entails.of_eq (range2 (fun s => oAny (F := F) c s))) $$ H2
  ihave H3 := (Entails.of_eq (range2 (fun s => iprop(∃ f, bPts (F := F) c s f)))) $$ H3
  icases H2 with ⟨H20, H21⟩
  icases H3 with ⟨H30, H31⟩
  isplitl [H1]; · iexact H1
  isplitl [H0]; · iexact H0
  isplitl [H30 Hw0 HW0]
  · isplitl [H30]; · iexact H30
    isplitl [Hw0] <;> iassumption
  isplitl [H31 Hw1 HW1]
  · isplitl [H31]; · iexact H31
    isplitl [Hw1] <;> iassumption
  isplitl [Hx]; · iexact Hx
  isplitl [H20]; · iexact H20
  isplitl [H21]; · iexact H21
  isplitl [Ho0]; · iexact Ho0
  isplitl [Ho1] <;> iassumption

theorem bufs_out (c : Dev nD) :
    bufs m c 8 ⊢ iprop(scratch (F := F) c ∗ locSems (F := F) c ∗ wAll m c ∗ xPts m c ∗ vPts c Finset.univ (res m c)) := by
  unfold scratch locSems bufs wIdle outIdle
  rw [wAll_halves, mix_all]
  iintro ⟨H1, H0, ⟨H30, Hw0, HW0⟩, ⟨H31, Hw1, HW1⟩, Hx, H20, H21, Ho0, Ho1, Hv⟩
  ihave H2 := (Entails.of_eq (range2 (fun s => oAny (F := F) c s)).symm) $$ [H20 H21]
  · isplitl [H20] <;> iassumption
  ihave H3 := (Entails.of_eq (range2 (fun s => iprop(∃ f, bPts (F := F) c s f))).symm) $$ [H30 H31]
  · isplitl [H30] <;> iassumption
  isplitl [H0 H1 H2 H3]
  · isplitl [H0]; · iapply (join0 m c); iexact H0
    isplitl [H1]; · iapply (join1 m c); iexact H1
    isplitl [H2]; · iapply (join2 m c); iexact H2
    iapply (join3 m c); iexact H3
  isplitl [Hw0 Hw1 Ho0 Ho1]
  · isplitl [Hw0]; · iexact Hw0
    isplitl [Hw1]; · iexact Hw1
    isplitl [Ho0] <;> iassumption
  isplitl [HW0 HW1]
  · isplitl [HW0] <;> iassumption
  isplitl [Hx] <;> iassumption

end Cert.SoftmaxProof
-- ==== Proof.Deal.lean ====
/-
The launch: the cells and slots set up, and every device dealt what it uses.
-/
module

public import proofs.«01_k».proof.Proof.Credits
public import proofs.«01_k».proof.Proof.Buffers
public import Idealize.ShloMosaic.Lib.SparseCore.Launch
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the tokens -/

/-- The ten cells of a device. -/
def csem (j : ℕ) : SemLoc sig := if j < 4 then .dma (sendSem j) else if j < 8 then .dma (recvSem j) else if j = 8 then .reg creditSem else .reg barSem
abbrev kc (c : Dev nD) (j : ℕ) : GSem nD τ sig := ((c : Thread nD τ), csem j)
/-- The twenty-five payments to a device's own cells: semaphore, round and number. -/
def tk (j : ℕ) : SemLoc sig × ℕ × ℕ :=
  if j < 8 then (.dma (sendSem j), j / 4, 0) else if j < 16 then (.dma (recvSem (j - 8)), (j - 8) / 4, 0) else if j < 24 then (.reg creditSem, 0, j - 16) else (.reg barSem, 0, 0)
abbrev tokOf (c : Dev nD) (j : ℕ) : GSem nD τ sig × ℕ × ℕ := (((c : Thread nD τ), (tk j).1), (tk j).2)

theorem csem_inj : ∀ a < 10, ∀ b < 10, csem a = csem b → a = b := by decide +kernel
theorem tk_inj : ∀ a < 25, ∀ b < 25, tk a = tk b → a = b := by decide +kernel

def ringCells : Finset (GSem nD τ sig) := ((Finset.univ : Finset (Dev nD)) ×ˢ Finset.range 10).image fun x => kc x.1 x.2
def ringToks : Finset (GSem nD τ sig × ℕ × ℕ) := ((Finset.univ : Finset (Dev nD)) ×ˢ Finset.range 25).image fun x => tokOf x.1 x.2
def keys : Finset (Dev nD × ℕ) := (Finset.univ : Finset (Dev nD)) ×ˢ Finset.range 4

theorem dev_of_thread {c c' : Dev nD} (h : (c : Thread nD τ) = (c' : Thread nD τ)) : c = c' := congrArg Prod.fst h

theorem cells_inj : Set.InjOn (fun x : Dev nD × ℕ => kc x.1 x.2) ((Finset.univ : Finset (Dev nD)) ×ˢ Finset.range 10 : Finset (Dev nD × ℕ)) := by
  rintro ⟨c, j⟩ h ⟨c', j'⟩ h' e
  have hj := Finset.mem_range.mp (Finset.mem_product.mp (Finset.mem_coe.mp h)).2
  have hj' := Finset.mem_range.mp (Finset.mem_product.mp (Finset.mem_coe.mp h')).2
  exact Prod.ext (dev_of_thread (congrArg Prod.fst e)) (csem_inj _ hj _ hj' (congrArg Prod.snd e))
theorem toks_inj : Set.InjOn (fun x : Dev nD × ℕ => tokOf x.1 x.2) ((Finset.univ : Finset (Dev nD)) ×ˢ Finset.range 25 : Finset (Dev nD × ℕ)) := by
  rintro ⟨c, j⟩ h ⟨c', j'⟩ h' e
  have hj := Finset.mem_range.mp (Finset.mem_product.mp (Finset.mem_coe.mp h)).2
  have hj' := Finset.mem_range.mp (Finset.mem_product.mp (Finset.mem_coe.mp h')).2
  exact Prod.ext (dev_of_thread (congrArg (fun x : GSem nD τ sig × ℕ × ℕ => x.1.1) e))
    (tk_inj _ hj _ hj' (Prod.ext (congrArg (fun x : GSem nD τ sig × ℕ × ℕ => x.1.2) e) (congrArg (fun x : GSem nD τ sig × ℕ × ℕ => x.2) e)))

theorem over_cells (Φ : GSem nD τ sig → sProp 𝕄) : bigSep ringCells Φ = bigSep Finset.univ fun c : Dev nD => bigSep (Finset.range 10) fun j => Φ (kc c j) := by
  unfold ringCells; rw [bigSep_image_of_injOn cells_inj, SparseCore.bigSep_product]
theorem over_toks (Φ : GSem nD τ sig × ℕ × ℕ → sProp 𝕄) : bigSep ringToks Φ = bigSep Finset.univ fun c : Dev nD => bigSep (Finset.range 25) fun j => Φ (tokOf c j) := by
  unfold ringToks; rw [bigSep_image_of_injOn toks_inj, SparseCore.bigSep_product]
theorem over_keys (Φ : Dev nD × ℕ → sProp 𝕄) : bigSep keys Φ = bigSep Finset.univ fun c : Dev nD => bigSep (Finset.range 4) fun s => Φ (c, s) := by
  unfold keys; rw [SparseCore.bigSep_product]

theorem range_add {M : Type} [URA M] (Φ : ℕ → sProp M) (a : ℕ) : ∀ b, bigSep (Finset.range (a + b)) Φ ⊢ iprop(bigSep (Finset.range a) Φ ∗ bigSep (Finset.range b) fun i => Φ (a + i))
  | 0 => by
    show bigSep (Finset.range a) Φ ⊢ _
    iintro H
    isplitl [H]; · iexact H
    rw [Finset.range_zero, bigSep_empty]
    iempintro
  | b + 1 => by
    have h := range_add Φ a b
    iintro H
    ihave H := (show bigSep (Finset.range (a + (b + 1))) Φ ⊢ iprop(Φ (a + b) ∗ bigSep (Finset.range (a + b)) Φ) from by
      rw [← Nat.add_assoc, Finset.range_add_one]; exact Entails.of_eq (bigSep_insert Finset.notMem_range_self)) $$ H
    icases H with ⟨H1, H⟩
    ihave H := h $$ H
    icases H with ⟨Ha, Hb⟩
    isplitl [Ha]; · iexact Ha
    iapply (show iprop(Φ (a + b) ∗ bigSep (Finset.range b) fun i => Φ (a + i)) ⊢ bigSep (Finset.range (b + 1)) fun i => Φ (a + i) from by
      rw [Finset.range_add_one]; exact Entails.of_eq (bigSep_insert (Φ := fun i => Φ (a + i)) Finset.notMem_range_self).symm)
    isplitl [H1] <;> iassumption

/-! ## What the launch element deals -/

def u₀ : UU :=
  (initOf (Pipeline.cells cfgs cellOf_inj) (Pipeline.launchToks cfgs cellOf_inj), (initOf ringCells ringToks, (initSlots keys 1, (1 : Counters))))

/-- What a device keeps. -/
def mine (c : Dev nD) : sProp 𝕄 :=
  iprop((bigSep (Finset.range 10) fun j => atPos ER (kc c j) 0 ∅ 0) ∗ (bigSep (Finset.range 8) fun k => dutyTok ER (sendCell c k) (k / 4) 0)
    ∗ bigSep (Finset.range 4) fun s => readerAt ES (key c s) 0)
/-- What its peer uses. -/
def theirs (c : Dev nD) : sProp 𝕄 :=
  iprop((bigSep (Finset.range 8) fun k => dutyTok ER (recvCell c k) (k / 4) 0) ∗ (bigSep (Finset.range 8) fun k => dutyTok ER (creditCell c) 0 k)
    ∗ dutyTok ER (barCell c) 0 0 ∗ bigSep (Finset.range 4) fun s => writeTok ES (key c s) 1)
def known (c : Dev nD) : sProp 𝕄 := iprop((bigSep (Finset.range 10) fun j => reached ER (kc c j) 0) ∗ bigSep (Finset.range 4) fun s => SI (F := F) c s)
instance known_persistent (c) : BI.Persistent (known (F := F) c) := by unfold known; infer_instance
def G (c : Dev nD) : sProp 𝕄 :=
  iprop((bigSep (Finset.range 10) fun j => roundState ER (ringRd m) (kc c j) 0) ∗ known (F := F) c ∗ mine (F := F) c ∗ theirs (F := F) c)

theorem toks_split (c : Dev nD) : (bigSep (Finset.range 25) fun j => dutyTok ER (tokOf c j).1 (tokOf c j).2.1 (tokOf c j).2.2 : sProp 𝕄)
    ⊢ iprop((bigSep (Finset.range 8) fun k => dutyTok ER (sendCell c k) (k / 4) 0) ∗ (bigSep (Finset.range 8) fun k => dutyTok ER (recvCell c k) (k / 4) 0)
      ∗ (bigSep (Finset.range 8) fun k => dutyTok ER (creditCell c) 0 k) ∗ dutyTok ER (barCell c) 0 0) := by
  have tk1 : ∀ k < 8, tk k = (.dma (sendSem k), k / 4, 0) := by decide +kernel
  have tk2 : ∀ k < 8, tk (8 + k) = (.dma (recvSem k), k / 4, 0) := by decide +kernel
  have tk3 : ∀ k < 8, tk (8 + (8 + k)) = (.reg creditSem, 0, k) := by decide +kernel
  let Φ : SemLoc sig × ℕ × ℕ → sProp 𝕄 := fun x => dutyTok ER ((c : Thread nD τ), x.1) x.2.1 x.2.2
  show bigSep (Finset.range (8 + (8 + (8 + 1)))) (fun j => Φ (tk j)) ⊢ _
  iintro H
  ihave H := (range_add (fun j => Φ (tk j)) 8 (8 + (8 + 1))) $$ H
  icases H with ⟨H1, H⟩
  ihave H := (range_add (fun j => Φ (tk (8 + j))) 8 (8 + 1)) $$ H
  icases H with ⟨H2, H⟩
  ihave H := (range_add (fun j => Φ (tk (8 + (8 + j)))) 8 1) $$ H
  icases H with ⟨H3, H⟩
  isplitl [H1]
  · iapply (Entails.of_eq (bigSep_congr fun k hk => congrArg Φ (tk1 k (Finset.mem_range.mp hk)))); iexact H1
  isplitl [H2]
  · iapply (Entails.of_eq (bigSep_congr fun k hk => congrArg Φ (tk2 k (Finset.mem_range.mp hk)))); iexact H2
  isplitl [H3]
  · iapply (Entails.of_eq (bigSep_congr fun k hk => congrArg Φ (tk3 k (Finset.mem_range.mp hk)))); iexact H3
  · iapply (show (bigSep (Finset.range 1) fun j => Φ (tk (8 + (8 + (8 + j))))) ⊢ dutyTok ER (barCell c) 0 0 from by
      rw [Finset.range_one, bigSep_singleton]; exact .rfl)
    iexact H

theorem slot_at (ι : Dev nD × ℕ → ℕ) (c : Dev nD) (s : ℕ) (hs : s < 4) : slotInv ES (ι (c, s)) (c, s) (recvAny (F := F) c s) ⊢ SI (F := F) c s := by
  have e : (c, s) = key c s := Prod.ext rfl (Nat.mod_eq_of_lt hs).symm
  unfold SI
  rw [← e]
  exact exists_intro (Φ := fun i => slotInv ES i (c, s) (recvAny (F := F) c s)) (ι (c, s))

theorem fund_ring : BI.own (EQ (initOf ringCells ringToks, (initSlots keys 1, (1 : Counters)))) ⊢ (|={Set.univ}=> bigSep Finset.univ (G m) : sProp 𝕄) := by
  iintro HX
  ihave H := (own_pair_emb EQ (initOf ringCells ringToks) (initSlots keys 1, (1 : Counters))) $$ HX
  icases H with ⟨HR, H⟩
  ihave H := (own_pair_emb EQ' (initSlots keys 1) (1 : Counters)) $$ H
  icases H with ⟨HS, -⟩
  imod (Rounds.fund ER (ringRd m) ringCells ringToks) $$ HR with ⟨Hst, Hr, Hat, Htok⟩
  imod (slots_init (Es := Set.univ) ES keys 1 (fun x => recvAny (F := F) x.1 x.2)) $$ HS with ⟨%ι, -, HI, Hrd, Hw⟩
  imodintro
  ihave Hst := (Entails.of_eq (over_cells fun g => roundState ER (ringRd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := ((Entails.of_eq (over_toks (F := F) fun x => dutyTok ER x.1 x.2.1 x.2.2)).trans (bigSep_mono fun c _ => toks_split (F := F) c)) $$ Htok
  ihave HI := ((Entails.of_eq (over_keys (F := F) fun x => slotInv ES (ι x) x (recvAny (F := F) x.1 x.2))).trans
    (bigSep_mono fun c _ => bigSep_mono fun s hs => slot_at ι c s (Finset.mem_range.mp hs))) $$ HI
  ihave Hrd := ((Entails.of_eq (over_keys (F := F) fun x => readerAt ES x 0)).trans
    (bigSep_mono fun c _ => (Entails.of_eq (bigSep_congr fun s hs => congrArg (fun x => (readerAt ES x 0 : sProp 𝕄)) (Prod.ext rfl (Nat.mod_eq_of_lt (Finset.mem_range.mp hs)).symm : (c, s) = key c s))))) $$ Hrd
  ihave Hw := ((Entails.of_eq ((SparseCore.bigSep_product (M := 𝕄) keys (Finset.range 1) (fun x => writeTok ES x.1 (x.2 + 1))).trans
      ((bigSep_congr fun x _ => (show bigSep (Finset.range 1) (fun j => writeTok ES x (j + 1)) = (writeTok ES x 1 : sProp 𝕄) from by rw [Finset.range_one, bigSep_singleton])).trans
        (over_keys (F := F) fun x => writeTok ES x 1)))).trans
    (bigSep_mono fun c _ => (Entails.of_eq (bigSep_congr fun s hs => congrArg (fun x => (writeTok ES x 1 : sProp 𝕄)) (Prod.ext rfl (Nat.mod_eq_of_lt (Finset.mem_range.mp hs)).symm : (c, s) = key c s))))) $$ Hw
  unfold G known mine theirs
  simp only [bigSep_sep']
  icases Htok with ⟨T1, T2, T3, T4⟩
  isplitl [Hst]; · iexact Hst
  isplitl [Hr HI]
  · isplitl [Hr] <;> iassumption
  isplitl [Hat T1 Hrd]
  · isplitl [Hat]; · iexact Hat
    isplitl [T1] <;> iassumption
  isplitl [T2]; · iexact T2
  isplitl [T3]; · iexact T3
  isplitl [T4] <;> iassumption

end Cert.SoftmaxProof
-- ==== Proof.Glob.lean ====
/-
The invariants of the cells allocated, and each device dealt the tokens of its payments.
-/
module

public import proofs.«01_k».proof.Proof.Deal
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores -/

/-- The kernel's own semaphores: the thirteenth is the credit counter, the twelve before it the copies'. -/
abbrev osem : Fin 13 → SemLoc sig := fun i => if h : i.val < 12 then .dma (⟨i.val + 1, by omega⟩ : Fin 13) else .reg creditSem
theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal ((c : Thread nD τ), .dma (wSem 0)) 0 ∗ semVal ((c : Thread nD τ), .dma (wSem 1)) 0 ∗ oSv (F := F) c 0 ∗ oSv (F := F) c 1
      ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0 ∗ semVal (creditCell c) 0) := by
  rw [Pipeline.ownSems0_eq_of_list c osem [0, 1, 2, 3, 4, 5, 6, 7, 8, 9, 10, 11, 12] (by decide) (by decide)]; rfl
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem range10 {M : Type} [URA M] (Φ : ℕ → sProp M) : bigSep (Finset.range 10) Φ = iprop(Φ 0 ∗ Φ 1 ∗ Φ 2 ∗ Φ 3 ∗ Φ 4 ∗ Φ 5 ∗ Φ 6 ∗ Φ 7 ∗ Φ 8 ∗ Φ 9) :=
  bigSep_eq_bigSepL_of_eq [0, 1, 2, 3, 4, 5, 6, 7, 8, 9] (by decide) (by decide) Φ

abbrev ownSems (c : Dev nD) : sProp 𝕄 := Pipeline.ownSems0 (Ix := ℕ) (Name := ℕ) (U := UU) (Lvl := ℕ) (Val := Elt F) (τ := τ) osem c

/-- The kernel's semaphores: those of its own copies, and those of the cells. -/
theorem sems_split (c : Dev nD) : iprop(ownSems (F := F) c ∗ unscopedSems0 c) ⊢ iprop(locSems (F := F) c ∗ bigSep (Finset.range 10) fun j => semVal (kc c j) 0) := by
  unfold locSems ownSems
  rw [range10, ownSems0_eq, unscopedSems0_eq]
  iintro ⟨⟨Hw0, Hw1, Ho0, Ho1, S⟩, B⟩
  isplitl [Hw0 Hw1 Ho0 Ho1]
  · isplitl [Hw0]; · iexact Hw0
    isplitl [Hw1]; · iexact Hw1
    isplitl [Ho0] <;> iassumption
  icases S with ⟨S0, S1, S2, S3, R0, R1, R2, R3, C⟩
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [C]; · iexact C
  iexact B

theorem sems_join (c : Dev nD) : iprop(locSems (F := F) c ∗ closed (F := F) c) ⊢ iprop(ownSems (F := F) c ∗ unscopedSems0 c) := by
  unfold closed locSems ownSems
  rw [range4, ownSems0_eq, unscopedSems0_eq]
  iintro ⟨⟨Hw0, Hw1, Ho0, Ho1⟩, ⟨⟨S0, R0⟩, ⟨S1, R1⟩, ⟨S2, R2⟩, ⟨S3, R3⟩⟩, C, B⟩
  isplitr [B]
  · isplitl [Hw0]; · iexact Hw0
    isplitl [Hw1]; · iexact Hw1
    isplitl [Ho0]; · iexact Ho0
    isplitl [Ho1]; · iexact Ho1
    isplitl [S0]; · iexact S0
    isplitl [S1]; · iexact S1
    isplitl [S2]; · iexact S2
    isplitl [S3]; · iexact S3
    isplitl [R0]; · iexact R0
    isplitl [R1]; · iexact R1
    isplitl [R2]; · iexact R2
    isplitl [R3]; · iexact R3
    iexact C
  · iexact B

/-! ## The global step -/

/-- The cells and slots of a device, as anyone may know them. -/
def recs (c : Dev nD) : sProp 𝕄 := iprop((bigSep (Finset.range 10) fun j => CI m (kc c j)) ∗ known (F := F) c)
instance recs_persistent (c) : BI.Persistent (recs (F := F) m c) := by unfold recs; infer_instance

theorem core_alloc (c : Dev nD) :
    iprop(ownSems (F := F) c ∗ unscopedSems0 c ∗ G m c) ⊢ |={Set.univ}=> iprop(recs m c ∗ (locSems (F := F) c ∗ mine (F := F) c) ∗ theirs (F := F) c) := by
  unfold G recs
  iintro ⟨Hos, Hus, Hst, Hk, Hm, Ht⟩
  ihave Hv := (sems_split (F := F) c) $$ [Hos Hus]
  · isplitl [Hos] <;> iassumption
  icases Hv with ⟨Hl, Hv⟩
  imod (show iprop((bigSep (Finset.range 10) fun j => semVal (kc c j) 0) ∗ bigSep (Finset.range 10) fun j => roundState ER (ringRd m) (kc c j) 0)
      ⊢ (|={Set.univ}=> bigSep (Finset.range 10) fun j => CI m (kc c j) : sProp 𝕄) from by
        rw [← bigSep_sep']
        exact (bigSep_mono fun j _ => (Rounds.body_intro ER (ringRd m) (kc c j)).trans inv_alloc).trans (bigSep_fupd _ _)) $$ [Hv Hst] with Hinv
  · isplitl [Hv] <;> iassumption
  imodintro
  isplitl [Hinv Hk]
  · isplitl [Hinv] <;> iassumption
  isplitl [Hl Hm]
  · isplitl [Hl] <;> iassumption
  iexact Ht

/-- What device `c` starts from, but for its memory and credit. -/
def G' (c : Dev nD) : sProp 𝕄 := iprop((recs m c ∗ recs m (peer c)) ∗ (locSems (F := F) c ∗ mine (F := F) c) ∗ theirs (F := F) (peer c))

theorem recs_at (c : Dev nD) : (bigSep Finset.univ (recs m) : sProp 𝕄) ⊢ recs m c := bigSep_elim (Finset.mem_univ c)
theorem G'_intro (c : Dev nD) :
    iprop((bigSep Finset.univ (recs m)) ∗ (locSems (F := F) c ∗ mine (F := F) c) ∗ theirs (F := F) (peer c)) ⊢ G' m c := by
  unfold G'
  iintro ⟨#HR, H⟩
  isplitr
  · isplitr
    · iapply (recs_at m c); iexact HR
    · iapply (recs_at m (peer c)); iexact HR
  iexact H

theorem regroup :
    (bigSep Finset.univ fun c : Dev nD => iprop(recs m c ∗ (locSems (F := F) c ∗ mine (F := F) c) ∗ theirs (F := F) c)) ⊢ bigSep Finset.univ (G' m) := by
  rw [bigSep_sep', bigSep_sep' Finset.univ (fun c : Dev nD => iprop(locSems (F := F) c ∗ mine (F := F) c)) (theirs (F := F)), bigSep_univ_equiv pe (theirs (F := F)),
    ← bigSep_sep' Finset.univ (fun c : Dev nD => iprop(locSems (F := F) c ∗ mine (F := F) c)) (fun c => theirs (F := F) (pe c))]
  exact bigSep_with_persistent (R := bigSep Finset.univ (recs m)) fun c _ => G'_intro m c

theorem glob : (bigSep Finset.univ fun c => iprop(ownSems (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## What the body takes -/

theorem csem_send {s : ℕ} (h : s < 4) : csem s = .dma (sendSem s) := if_pos h
theorem csem_recv {s : ℕ} (h : s < 4) : csem (4 + s) = .dma (recvSem s) := by
  unfold csem
  rw [if_neg (by omega), if_pos (by omega)]
  exact congrArg SemLoc.dma (Fin.ext (by show 9 + (4 + s) % 4 = 9 + s % 4; omega))

theorem CI_at (c : Dev nD) {j : ℕ} (h : j < 10) : recs m c ⊢ CI m (kc c j) := by
  unfold recs
  iintro ⟨H, -⟩
  iapply (show (bigSep (Finset.range 10) fun j => CI m (kc c j)) ⊢ CI m (kc c j) from bigSep_elim (Finset.mem_range.mpr h))
  iexact H
theorem reached_at (c : Dev nD) {j : ℕ} (h : j < 10) : recs m c ⊢ reached ER (kc c j) 0 := by
  unfold recs known
  iintro ⟨-, H, -⟩
  iapply (show (bigSep (Finset.range 10) fun j => (reached ER (kc c j) 0 : sProp 𝕄)) ⊢ reached ER (kc c j) 0 from bigSep_elim (Finset.mem_range.mpr h))
  iexact H
theorem SI_at (c : Dev nD) {s : ℕ} (h : s < 4) : recs m c ⊢ SI (F := F) c s := by
  unfold recs known
  iintro ⟨-, -, H⟩
  iapply (show (bigSep (Finset.range 4) fun s => SI (F := F) c s) ⊢ SI (F := F) c s from bigSep_elim (Finset.mem_range.mpr h))
  iexact H
theorem CI_send (c : Dev nD) {s : ℕ} (h : s < 4) : recs m c ⊢ CI m (sendCell c s) :=
  (CI_at m c (j := s) (by omega)).trans (Entails.of_eq (by unfold kc; rw [csem_send h]))
theorem CI_recv (c : Dev nD) {s : ℕ} (h : s < 4) : recs m c ⊢ CI m (recvCell c s) :=
  (CI_at m c (j := 4 + s) (by omega)).trans (Entails.of_eq (by unfold kc; rw [csem_recv h]))
theorem reached_send (c : Dev nD) {s : ℕ} (h : s < 4) : recs m c ⊢ reached ER (sendCell c s) 0 :=
  (reached_at m c (j := s) (by omega)).trans (Entails.of_eq (by unfold kc; rw [csem_send h]))
theorem reached_recv (c : Dev nD) {s : ℕ} (h : s < 4) : recs m c ⊢ reached ER (recvCell c s) 0 :=
  (reached_at m c (j := 4 + s) (by omega)).trans (Entails.of_eq (by unfold kc; rw [csem_recv h]))

theorem ctxAt_intro (c : Dev nD) {s : ℕ} (h : s < 4) : iprop(recs m c ∗ recs m (peer c)) ⊢ ctxAt m c s := by
  unfold ctxAt
  iintro ⟨#H, #HP⟩
  isplitr; · iapply (CI_send m c h); iexact H
  isplitr; · iapply (CI_recv m c h); iexact H
  isplitr; · iapply (CI_recv m (peer c) h); iexact HP
  isplitr; · iapply (SI_at m c h); iexact H
  isplitr; · iapply (SI_at m (peer c) h); iexact HP
  iapply (reached_recv m (peer c) h); iexact HP

theorem each_of {R : sProp 𝕄} [BI.Persistent R] {Φ : ℕ → sProp 𝕄} (h : ∀ s, s < 4 → R ⊢ Φ s) : R ⊢ bigSep (Finset.range 4) Φ :=
  (BI.bigSep_of_persistent (Finset.range 4) R).trans (bigSep_mono fun s hs => h s (Finset.mem_range.mp hs))

theorem Start_intro (c : Dev nD) : iprop(levAts L lv ∗ recs m c ∗ recs m (peer c)) ⊢ Start m c := by
  unfold Start Ctx
  iintro ⟨#HL, #H, #HP⟩
  isplitr
  · isplitr; · iexact HL
    isplitr
    · iapply (each_of (R := iprop(recs m c ∗ recs m (peer c))) fun s h => ctxAt_intro m c h)
      isplitr <;> iassumption
    isplitr; · iapply (CI_at m c (j := 8) (by decide)); iexact H
    isplitr; · iapply (CI_at m (peer c) (j := 8) (by decide)); iexact HP
    iapply (reached_at m (peer c) (j := 8) (by decide)); iexact HP
  isplitr; · iapply (CI_at m c (j := 9) (by decide)); iexact H
  isplitr; · iapply (CI_at m (peer c) (j := 9) (by decide)); iexact HP
  isplitr; · iapply (reached_at m (peer c) (j := 9) (by decide)); iexact HP
  iapply (each_of (R := recs m c) fun s h => reached_recv m c h); iexact H

theorem lower {M : Type} [URA M] (Φ : ℕ → sProp M) : bigSep (Finset.range 4) Φ ⊢ bigSep (Finset.range 8) fun k => if k < 4 then Φ k else iprop(emp) :=
  (Entails.of_eq (congrArg (fun S => bigSep S Φ) (show Finset.range 4 = (Finset.range 8).filter (· < 4) from by decide))).trans
    (Entails.of_eq (bigSep_filter (Finset.range 8) (· < 4) Φ))
theorem upper {M : Type} [URA M] (Φ : ℕ → sProp M) : bigSep (Finset.range 4) (fun s => Φ (4 + s)) ⊢ bigSep (Finset.range 8) fun k => if k < 4 then iprop(emp) else Φ k :=
  (Entails.of_eq (bigSep_image_of_injOn (s := Finset.range 4) (f := (4 + ·)) (fun a _ b _ h => Nat.add_left_cancel h) Φ).symm).trans
    ((Entails.of_eq (congrArg (fun S => bigSep S Φ) (show (Finset.range 4).image (4 + ·) = (Finset.range 8).filter (¬ · < 4) from by decide))).trans
      ((Entails.of_eq (bigSep_filter (Finset.range 8) (¬ · < 4) Φ)).trans (Entails.of_eq (bigSep_congr fun k _ => ite_not _ _ _))))

theorem mine_split (c : Dev nD) : iprop(recs m c ∗ bigSep (Finset.range 10) fun j => atPos ER (kc c j) 0 ∅ 0)
    ⊢ iprop((bigSep (Finset.range 4) fun s => places (F := F) c s) ∗ atPos ER (creditCell c) 0 ∅ 0 ∗ atPos ER (barCell c) 0 ∅ 0) := by
  let Φ : SemLoc sig → sProp 𝕄 := fun x => atPos ER ((c : Thread nD τ), x) 0 ∅ 0
  iintro ⟨#HR, H⟩
  ihave H := (range_add (fun j => Φ (csem j)) 4 (4 + 2)) $$ H
  icases H with ⟨HS, H⟩
  ihave H := (range_add (fun j => Φ (csem (4 + j))) 4 2) $$ H
  icases H with ⟨HV, H⟩
  ihave H := (Entails.of_eq (range2 (fun j => Φ (csem (4 + (4 + j)))))) $$ H
  icases H with ⟨HC, HB⟩
  isplitl [HS HV]
  · unfold places
    iapply (show iprop(recs m c ∗ (bigSep (Finset.range 4) fun s => Φ (csem s)) ∗ bigSep (Finset.range 4) fun s => Φ (csem (4 + s)))
        ⊢ (bigSep (Finset.range 4) fun s => iprop((atPos ER (sendCell c s) (s / 4) ∅ 0 ∗ reached ER (sendCell c s) (s / 4)) ∗ atPos ER (recvCell c s) (s / 4) ∅ 0)) from by
      rw [← bigSep_sep']
      refine bigSep_with_persistent (R := recs m c) fun s hs => ?_
      have h := Finset.mem_range.mp hs
      rw [csem_send h, csem_recv h, Nat.div_eq_of_lt h]
      exact (show iprop(recs m c ∗ Φ (.dma (sendSem s)) ∗ Φ (.dma (recvSem s))) ⊢ iprop((atPos ER (sendCell c s) 0 ∅ 0 ∗ reached ER (sendCell c s) 0) ∗ atPos ER (recvCell c s) 0 ∅ 0) from by
        iintro ⟨#HR, HS, HV⟩
        isplitr [HV]
        · isplitl [HS]; · iexact HS
          iapply (reached_send m c h); iexact HR
        · iexact HV))
    isplitr; · iexact HR
    isplitl [HS] <;> iassumption
  isplitl [HC]
  · iexact HC
  · iexact HB

theorem dealt_intro (c : Dev nD) :
    iprop((bigSep (Finset.range 8) fun k => dutyTok ER (sendCell c k) (k / 4) 0) ∗ (bigSep (Finset.range 8) fun k => dutyTok ER (recvCell (peer c) k) (k / 4) 0)
      ∗ (bigSep (Finset.range 8) fun k => cred (tallyAt (recvCell c k) (k / 4) N)) ∗ (bigSep (Finset.range 8) fun k => giveTok (F := F) c k)
      ∗ (bigSep (Finset.range 8) fun k => dutyTok ER (creditCell (peer c)) 0 k) ∗ bigSep (Finset.range 8) fun k => if k < 4 then iprop(emp) else writeTok ES (key (peer c) k) 1)
    ⊢ (bigSep (Finset.range 8) fun k => dealt (F := F) c k) := by
  unfold dealt rcv toks
  simp only [bigSep_sep']
  iintro ⟨H1, H2, H3, H4, H5, H6⟩
  isplitl [H1 H2]
  · isplitl [H1] <;> iassumption
  isplitr [H6]
  · isplitl [H3]; · iexact H3
    isplitl [H4] <;> iassumption
  · iexact H6

theorem credSt_intro (c : Dev nD) : iprop(atPos ER (creditCell c) 0 ∅ 0 ∗ bigSep (Finset.Ico 0 3) fun i => cred (tallyAt (creditCell c) i (if i < 2 then 2 else 4))) ⊢ credSt (F := F) c 0 := by
  unfold credSt
  iintro ⟨Ha, Hc⟩
  iexists ∅
  isplitr; · ipureintro; exact Finset.empty_subset _
  isplitl [Ha]; · iexact Ha
  isplitr; · rw [bigSep_empty]; iempintro
  iexact Hc

theorem key_up (c : Dev nD) (s : ℕ) : key c (4 + s) = key c s := Prod.ext rfl (by show (4 + s) % 4 = s % 4; omega)

theorem bodyIn_intro (c : Dev nD) :
    iprop(levAts L lv ∗ (recs m c ∗ recs m (peer c)) ∗ mine (F := F) c ∗ theirs (F := F) (peer c) ∗ creds (F := F) c ∗ bufs m c 0) ⊢ bodyIn m c := by
  unfold bodyIn mine theirs creds
  iintro ⟨#HL, ⟨#HR, #HP⟩, ⟨Hat, Hs, Hrd⟩, ⟨Hr, Hc, Hb, Hw⟩, ⟨Cb, Cr, Cc⟩, Hbuf⟩
  ihave H := (mine_split m c) $$ [Hat]
  · isplitr; · iexact HR
    iexact Hat
  icases H with ⟨Hpl, HaC, HaB⟩
  isplitr
  · iapply (Start_intro m c)
    isplitr; · iexact HL
    isplitr <;> iassumption
  isplitl [HaB]; · iexact HaB
  isplitl [Hb]; · iexact Hb
  isplitl [Cb]; · iexact Cb
  isplitl [Hs Hr Cr Hrd Hc Hw]
  · iapply (dealt_intro (F := F) c)
    isplitl [Hs]; · iexact Hs
    isplitl [Hr]; · iexact Hr
    isplitl [Cr]; · iexact Cr
    isplitl [Hrd]
    · unfold giveTok
      iapply (lower (fun k => (readerAt ES (key c k) 0 : sProp 𝕄))); iexact Hrd
    isplitl [Hc]; · iexact Hc
    iapply (upper (fun k => (writeTok ES (key (peer c) k) 1 : sProp 𝕄)))
    simp only [key_up]
    iexact Hw
  isplitl [Hpl]; · iexact Hpl
  isplitl [HaC Cc]
  · iapply (credSt_intro (F := F) c)
    isplitl [HaC] <;> iassumption
  iexact Hbuf

end Cert.SoftmaxProof
-- ==== Proof.Run.lean ====
/-
The run of the whole program, at any float values.
-/
module

public import proofs.«01_k».proof.Proof.Glob
public import Idealize.ShloMosaic.Lib.Tactic

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

/-! ## The contents -/

def xstg (c : Dev nD) : (cc0_stg0_0 : Ref sig .tc).ty.Contents (Elt F) :=
  (win0_0.blk (0 : Fin 1)).view.read (Elt F) ((s₀ m ρ).mem ((c : Thread nD τ).loc main_arg0))
theorem read_block (f : Vec F S1024x2048 .bf16) : (win0_0.blk t0_0).view.read (Elt F) f = f :=
  Memref.read_access_unit_zero (Elt F) main_arg0
    (funext fun a => by fin_cases a <;> rfl : (fun a => (win0_0.index t0_0) a * main_arg0.ty.shape.size a) = fun _ => 0) (fun a => by fin_cases a <;> decide) f
theorem xstg_eq (c : Dev nD) : xstg m ρ c = xOf m c := read_block (xOf m c)

/-- What device `c` takes into its kernel. -/
def start (c : Dev nD) : sProp 𝕄 :=
  iprop(levAts L lv ∗ G' m c ∗ creds (F := F) c ∗ wAll m c ∗ vPts c Finset.univ (m ((c : Thread nD τ).loc main_v1)))
/-- What it leaves. -/
def done (c : Dev nD) : sProp 𝕄 := iprop(unscopedSems0 c ∗ wAll m c ∗ vPts c Finset.univ (res m c))
def Φ₀ (c : Dev nD) : sProp 𝕄 := iprop(start m c ∗ scratch (F := F) c)
def Φ₁ (c : Dev nD) : sProp 𝕄 := iprop(done m c ∗ ownSems (F := F) c ∗ scratch (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))
abbrev t₀ : Fin cfg0.N := t0_0

def bodyPre (c : Dev nD) : sProp 𝕄 :=
  iprop(Φ₀ m c ∗ (dats m ρ 0 c).owesAt 0 t₀.castSucc ∗ (∃ d, stg c ((dats m ρ 0 c).before (0 : Fin 1) t₀ d)))
def bodyPost (c : Dev nD) : sProp 𝕄 :=
  iprop(Φ₁ m c ∗ (dats m ρ 0 c).owesAt 0 t₀.succ ∗ stg c (xstg m ρ c))

theorem ow_start (c : Dev nD) : (dats m ρ 0 c).owesAt 0 t₀.castSucc ⊢ OW (F := F) c 0 := by
  unfold OW Dat.owesAt Pipeline.owesWithin
  rw [show (dats m ρ 0 c).owed t₀.castSucc = owed c 0 from rfl]
  iintro ⟨%W, -, HO⟩
  iexists W
  iexact HO
theorem ow_end (c : Dev nD) : OW (F := F) c 17 ⊢ (dats m ρ 0 c).owesAt 0 t₀.succ := by
  unfold OW Dat.owesAt Pipeline.owesWithin
  rw [show (dats m ρ 0 c).owed t₀.succ = 0 from rfl, owed_end]
  iintro ⟨%W, HO⟩
  iexists W
  isplitr; · ipureintro; exact fun _ _ => Or.inl trivial
  iexact HO

theorem sound_body (c : Dev nD) :
    bodyPre m ρ c ⊢ WP c (cc0__body xM (Memref.isWhole_whole _) wHM (Memref.isWhole_whole _) oHM (Memref.isWhole_whole _) sM (Memref.isWhole_whole _) rM (Memref.isWhole_whole _) oM (Memref.isWhole_whole _) bM (Memref.isWhole_whole _) cc0_scratch4 cc0_scratch5 cc0_scratch6 cc0_scratch7 cc0_scratch8) (fun _ => bodyPost m ρ c) := by
  unfold bodyPre Φ₀ start G'
  iintro ⟨⟨⟨HL, ⟨HR, ⟨Hl, Hm⟩, Ht⟩, Hc, HW, Hv⟩, Hs⟩, Ho, ⟨%d0, %g0, %hg0, Hx⟩⟩
  have hx : g0 = xOf m c := by rw [hg0]; unfold Dat.before; rw [if_pos (fetch_0 t₀)]; exact xstg_eq m ρ c
  subst hx
  ihave HO := (ow_start m ρ c) $$ Ho
  ihave Hb := (bufs_in m c) $$ [Hs Hl HW Hx Hv]
  · isplitl [Hs]; · iexact Hs
    isplitl [Hl]; · iexact Hl
    isplitl [HW]; · iexact HW
    isplitl [Hx]; · unfold xPts; iexact Hx
    iexact Hv
  ihave Hin := (bodyIn_intro m c) $$ [HL HR Hm Ht Hc Hb]
  · isplitl [HL]; · iexact HL
    isplitl [HR]; · iexact HR
    isplitl [Hm]; · iexact Hm
    isplitl [Ht]; · iexact Ht
    isplitl [Hc] <;> iassumption
  iapply (wp_body m c (Q := fun _ => bodyPost m ρ c)) $$ [Hin HO]
  · isplitl [Hin] <;> iassumption
  iintro ⟨Hb, Hcl, HO⟩
  ihave Hb := (bufs_out m c) $$ Hb
  icases Hb with ⟨Hs, Hl, HW, Hx, Hv⟩
  ihave Hsem := (sems_join (F := F) c) $$ [Hl Hcl]
  · isplitl [Hl] <;> iassumption
  icases Hsem with ⟨Hos, Hus⟩
  unfold bodyPost Φ₁ done
  isplitl [Hs HW Hv Hos Hus]
  · isplitl [HW Hv Hus]
    · isplitl [Hus]; · iexact Hus
      isplitl [HW] <;> iassumption
    isplitl [Hos] <;> iassumption
  isplitl [HO]
  · iapply (ow_end m ρ c); iexact HO
  iexists _; isplitr; · (ipureintro; exact (xstg_eq m ρ c).symm)
  unfold xPts; iexact Hx

set_option maxRecDepth 4000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HW, Hv⟩, HL, Hcr, -, HG⟩
  ihave Hc := (creds_intro (F := F) c) $$ Hcr
  imodintro
  unfold start
  isplitl
  · isplitl [HL]; · iexact HL
    isplitl [HG]; · iexact HG
    isplitl [Hc]; · iexact Hc
    isplitl [HW]; · unfold wAll; iexact HW
    unfold vPts; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq]
  exact .rfl

theorem waits (c : Dev nD) : (levAts L lv : sProp 𝕄) ⊢ Pipeline.cellsWaits cfgs (dats m ρ) 0 0 c :=
  Pipeline.cellsWaits_intro cfgs (dats m ρ) 0 0 c fun w s t => by
    fin_cases w; fin_cases s
    rcases t with ⟨_ | _, ht⟩
    · exact mayWait_low c (0 : Fin 13) (by decide) 0
    · exact (mayWait_low c (0 : Fin 13) (by decide) 17).trans (Entails.of_eq (by rw [owed_end]; rfl))

def finalA (c : Dev nD) (w : Fin cfg0.W) : Buf (Elt F) ((cfg0.win w).arr.view.loc (c : Thread nD τ)) := (dats m ρ 0 c).arrAt w cfg0.N

/-- What every device's memory holds at the end. -/
def QC : PUnit × MemSt nD τ sig (Elt F) → Prop := fun r =>
  ∀ c : Dev nD, (r.2.mem ((c : Thread nD τ).loc main_arg0) = m ((c : Thread nD τ).loc main_arg0)
    ∧ r.2.mem ((c : Thread nD τ).loc main_arg1) = m ((c : Thread nD τ).loc main_arg1)) ∧ r.2.mem ((c : Thread nD τ).loc main_v1) = res m c

theorem finalA_x (c : Dev nD) : finalA m ρ c (0 : Fin 1) = m ((c : Thread nD τ).loc main_arg0) :=
  (dats (F := F) m ρ 0 c).arrAt_in (0 : Fin 1) rfl _

set_option maxRecDepth 8000 in
/-- At any float values, from any memory with zero counters: every fair execution of the program on the eight devices
    ends, with the arguments as they were, the result `res` and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := fun c s => (s.mem ((c : Thread nD τ).loc main_arg1) = m ((c : Thread nD τ).loc main_arg1) ∧ s.mem ((c : Thread nD τ).loc main_v1) = res m c)
      ∧ ∀ sm : SemLoc sig, sm.isScoped .tc = false → s.sem ((c.tc : Thread nD τ), sm) = 0)
    (hY := fun c s' => by
      unfold done wAll vPts
      rw [unscopedSems0_eq]
      iintro ⟨⟨Hu, HW, Hv⟩, -, HSI⟩
      icombine HSI HW gives %hw
      icombine HSI Hv gives %hv
      icombine HSI Hu gives %hu
      imodintro
      isplitr
      · ipureintro
        refine ⟨⟨Buf.eq_of_forall_mem_univ hw, Buf.eq_of_forall_mem_univ hv⟩, fun sm hsm => ?_⟩
        obtain rfl : sm = .reg barSem := by revert sm; decide
        simpa using hu
      iexact HSI)
    (hQ := fun _ h hs => ⟨fun c => ⟨⟨((h c).1 (0 : Fin 1)).trans (finalA_x m ρ c), (h c).2.2.1.1⟩, (h c).2.2.1.2⟩, sem_eq_zero hs fun c => (h c).2.2.2⟩)

end Cert.SoftmaxProof
-- ==== Proof.Reference.lean ====
/-
The run of the reference: its result as one expression of its arguments, at any float values.
-/
module

public import proofs.«01_k».proof.ReferenceIdeal
public import proofs.«01_k».proof.Proof.Gen.ReferenceIdeal
public import Idealize.ShloMosaic.Lib.Claim

@[expose] public section

noncomputable section

namespace Cert.SoftmaxProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The logits: the whole product of the activations and the weights. -/
def logits (x : FVec F S1024x2048 .bf16) (w : FVec F S2048x32768 .f32) : FVec F S1024x32768 .f32 :=
  Host.dotGeneral dot_S1024x2048_S2048x32768_S1024x32768_1_0_0_1_n_n none (extf .f32 x bitsLt_bf16_f32) w

/-- Each row's greatest logit. -/
def rowMax (l : FVec F S1024x32768 .f32) : FVec F S1024 .f32 :=
  Host.reduce FloatOps.maximumf l (constant S_ .f32 0xFF800000#32) reducesTo_S1024x32768_S1024_d1 h_S_

/-- One value a row, laid along the whole row. -/
def along (v : FVec F S1024 .f32) : FVec F S1024x32768 .f32 :=
  broadcastInDim S1024x32768 ![0, 1] bcast_S1024x1_S1024x32768_0_1 (broadcastInDim S1024x1 ![0] bcast_S1024_S1024x1_0 v)

/-- The exponentials of the logits less their row's greatest. -/
def exps (l : FVec F S1024x32768 .f32) : FVec F S1024x32768 .f32 := Host.exp (subf l (along (rowMax l)))

/-- Each row's sum. -/
def rowSum (e : FVec F S1024x32768 .f32) : FVec F S1024 .f32 :=
  Host.reduceAdd e (constant S_ .f32 0x00000000#32) reducesTo_S1024x32768_S1024_d1 h_S_

/-- The reference's result. -/
def refOut (x : FVec F S1024x2048 .bf16) (w : FVec F S2048x32768 .f32) : FVec F S1024x32768 .bf16 :=
  truncf .bf16 (Host.divf (exps (logits x w)) (along (rowSum (exps (logits x w))))) bitsLt_bf16_f32

/-- The reference runs: its result is `refOut` of its arguments, which keep their contents. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v11)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  rfl

/-- The machine has no semaphore on the reference's signature, so every counter is zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run_main m ρ)

end Cert.SoftmaxProof.Ref
-- ==== Proof.Frames.lean ====
/-
The frame claims, and the claim that the ideal program is the program's own text: read off the runs.
-/
module

public import proofs.«01_k».proof.Defs
public import proofs.«01_k».proof.Proof.Gen.Kernel
public import proofs.«01_k».proof.Proof.Run
public import proofs.«01_k».proof.Proof.Reference

@[expose] public section

noncomputable section

namespace Cert.SoftmaxProof

open Idealize.ShloMosaic Idealize.ShloMosaic.TcCoe Idealize.SL.Sem

/-- The precondition's own shape facts, on the kernel's side and on the reference's. -/
instance preK : Cert.Pre_finite_Kernel.Facts := ⟨by decide, by decide⟩
instance preR : Cert.Pre_finite_ReferenceIdeal.Facts := ⟨by decide, by decide⟩

/-- The kernel at any float values: the arguments keep their contents and every semaphore ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).1, h.2⟩) (run_main m ρ)

/-- The two printings of the kernel have one body table, case by case of the label, -/
theorem bodies_eq {F : FTy → Type} [FloatOps F] : (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => rfl

/-- and so the same table with the launch's own labels. -/
theorem defs_eq {F : FTy → Type} [FloatOps F] : (Cert.Kernel.defs (F := F)) = (Cert.KernelIdeal.defs (F := F)) :=
  congrArg (Pipeline.defs Cert.KernelIdeal.pcfgs) bodies_eq

/-- The kernel on bits: its text is the ideal program's, whose run holds at any float values. -/
theorem frame_kernel : Cert.quiescent_Kernel := by
  intro m ρ _
  rw [defs_eq]
  exact frame_any (F := Bits) m ρ

/-- The kernel at the ideal values. -/
theorem frame_kernelIdeal : Cert.quiescent_KernelIdeal := fun m ρ _ => frame_any (F := Ideal) m ρ

/-- The reference, under no precondition and under the claims' one. -/
theorem frame_reference : Cert.quiescent_ReferenceIdeal := fun m ρ _ => Ref.frame m ρ

theorem frame_reference_pre : Cert.quiescent_ReferenceIdeal_pre_finite_ReferenceIdeal := fun m ρ _ => Ref.frame m ρ

/-- The ideal pass rewrote nothing. -/
theorem preserves : Cert.preserves_Kernel_KernelIdeal := trivial

end Cert.SoftmaxProof
-- ==== Proof.Reads.lean ====
/-
The kernel's values at the ideal floats, read at one index.
-/
module

public import proofs.«01_k».proof.Proof.Values
public import Idealize.ShloMosaic.Lib.Pointwise
public import Idealize.ShloMosaic.Lib.IdealHost

@[expose] public section

noncomputable section

namespace Cert.SoftmaxProof

open Cert.KernelIdeal Cert.KernelIdeal.Gen
open Idealize.ShloMosaic

/-- The stored exponential of a logit. -/
theorem pay3_apply (a : Vec Ideal S1x128x16384 .bf16) (r : Fin 128) (q : Fin 16384) :
    k0_pay3 a (ix3 (0 : Fin 1) r q) = Ideal.exp (a (ix3 (0 : Fin 1) r q)) := by
  pointwise [k0_pay3]

/-- The reciprocal of a row's sum over both halves. -/
theorem pay4_apply (a b : Vec Ideal S1x128x16384 .bf16) (r : Fin 128) :
    k0_pay4 a b (ix2 r (0 : Fin 1))
      = Ideal.div 1 ((∑ q : Fin 16384, a (ix3 (0 : Fin 1) r q)) + ∑ q : Fin 16384, b (ix3 (0 : Fin 1) r q)) := by
  pointwise [k0_pay4]

/-- A half of the output's row block: the stored exponential times the reciprocal. -/
theorem pay5_apply (a b v : Vec Ideal S1x128x16384 .bf16) (r : Fin 128) (q : Fin 16384) :
    k0_pay5 a b v (ix3 (0 : Fin 1) r q) = v (ix3 (0 : Fin 1) r q) * k0_pay4 a b (ix2 r (0 : Fin 1)) := by
  pointwise [k0_pay5]

theorem pay6_apply (z : FVec Ideal S128x1 .f32) (v : Vec Ideal S1x128x16384 .bf16) (r : Fin 128) (q : Fin 16384) :
    k0_pay6 z v (ix3 (0 : Fin 1) r q) = v (ix3 (0 : Fin 1) r q) * z (ix2 r (0 : Fin 1)) := by
  pointwise [k0_pay6]

/-- A logit: a row of the activations times a column of the weights. -/
theorem colPay_apply (x : Vec Ideal S128x2048 .bf16) (w : Vec Ideal S1x2048x512 .f32) (r : Fin 128) (q : Fin 512) :
    colPay (k0_pay14 x) w (ix3 (0 : Fin 1) r q) = ∑ j : Fin 2048, x (ix2 r j) * w (ix3 (0 : Fin 1) j q) := by
  pointwise [colPay, k0_pay16, k0_pay14]

end Cert.SoftmaxProof
-- ==== Proof.RefReads.lean ====
/-
The reference's values at the ideal floats, read at one index.
-/
module

public import proofs.«01_k».proof.Proof.Reference
public import Idealize.ShloMosaic.Lib.Pointwise
public import Idealize.ShloMosaic.Lib.IdealHost

@[expose] public section

noncomputable section

namespace Cert.SoftmaxProof.Ref

open Cert.ReferenceIdeal Cert.ReferenceIdeal.Gen
open Idealize.ShloMosaic

/-- A logit: a row of the activations times a column of the weights. -/
theorem logits_apply (x : FVec Ideal S1024x2048 .bf16) (w : FVec Ideal S2048x32768 .f32) (i : Fin 1024) (q : Fin 32768) :
    logits x w (ix2 i q) = ∑ j : Fin 2048, x (ix2 i j) * w (ix2 j q) := by
  pointwise [logits]

/-- The constant the maximum starts from is below every number. -/
theorem ofBits_neg_inf : Ideal.ofBits .f32 0xFF800000#32 = ⊥ := by
  simp [Ideal.ofBits, Ideal.ieee]

/-- A row's greatest logit. -/
theorem rowMax_apply (l : FVec Ideal S1024x32768 .f32) (i : Fin 1024) :
    rowMax l (ix1 i) = Finset.univ.fold max (⊥ : EReal) (fun q : Fin 32768 => l (ix2 i q)) := by
  pointwise [rowMax, ofBits_neg_inf]

/-- One value a row, anywhere along the row. -/
theorem along_apply (v : FVec Ideal S1024 .f32) (i : Fin 1024) (q : Fin 32768) : along v (ix2 i q) = v (ix1 i) := by
  pointwise [along]

/-- A row's sum. -/
theorem rowSum_apply (e : FVec Ideal S1024x32768 .f32) (i : Fin 1024) :
    rowSum e (ix1 i) = ∑ q : Fin 32768, e (ix2 i q) := by
  pointwise [rowSum]

/-- An exponential of a logit less its row's greatest. -/
theorem exps_apply (l : FVec Ideal S1024x32768 .f32) (i : Fin 1024) (q : Fin 32768) :
    exps l (ix2 i q) = Ideal.exp (l (ix2 i q) - rowMax l (ix1 i)) := by
  rw [← along_apply (rowMax l) i q]
  pointwise [exps]

/-- An element of the result: an exponential over its row's sum. -/
theorem refOut_apply (x : FVec Ideal S1024x2048 .bf16) (w : FVec Ideal S2048x32768 .f32) (i : Fin 1024) (q : Fin 32768) :
    refOut x w (ix2 i q) = Ideal.div (exps (logits x w) (ix2 i q)) (∑ p : Fin 32768, exps (logits x w) (ix2 i p)) := by
  rw [← rowSum_apply, ← along_apply (rowSum (exps (logits x w))) i q]
  pointwise [refOut]

end Cert.SoftmaxProof.Ref
-- ==== Proof.Softmax.lean ====
/-
The mathematics of the claim: over finite numbers the exponentials less a common shift, divided by their sum, are the
exponentials times the reciprocal of theirs.
-/
module

public import Idealize.ShloMosaic.PureOps.Ideal.Laws
public import Idealize.ShloMosaic.Lib.IdealHost

@[expose] public section

noncomputable section

namespace Cert.SoftmaxProof

open Idealize.ShloMosaic

/-- A number strictly between the two infinities is a real. -/
theorem real_of_absf_lt {a : EReal} (h : max a (-a) < ⊤) : ∃ r : ℝ, a = (r : EReal) := by
  induction a using EReal.rec with
  | bot => simp at h
  | coe r => exact ⟨r, rfl⟩
  | top => simp at h

/-- A sum of reals is a real. -/
theorem sum_coe {ι : Type} [Fintype ι] (f : ι → ℝ) : (∑ k, (f k : EReal)) = ((∑ k, f k : ℝ) : EReal) := by
  classical
  have key : ∀ s : Finset ι, (∑ k ∈ s, (f k : EReal)) = ((∑ k ∈ s, f k : ℝ) : EReal) := by
    intro s
    induction s using Finset.induction_on with
    | empty => simp
    | insert k s hk ih => rw [Finset.sum_insert hk, Finset.sum_insert hk, ih, EReal.coe_add]
  exact key Finset.univ

/-- A product of two real vectors is a real. -/
theorem real_dot {ι : Type} [Fintype ι] (a b : ι → EReal) (ha : ∀ k, ∃ r : ℝ, a k = (r : EReal)) (hb : ∀ k, ∃ r : ℝ, b k = (r : EReal)) :
    ∃ r : ℝ, (∑ k, a k * b k) = (r : EReal) := by
  choose f hf using ha
  choose g hg using hb
  refine ⟨∑ k, f k * g k, ?_⟩
  rw [← sum_coe]
  exact Finset.sum_congr rfl fun k _ => by rw [hf, hg, EReal.coe_mul]

/-- The greatest of finitely many reals, at least one, is a real. -/
theorem real_max {ι : Type} [Fintype ι] [Nonempty ι] (l : ι → ℝ) :
    ∃ M : ℝ, Finset.univ.fold max (⊥ : EReal) (fun k => (l k : EReal)) = (M : EReal) := by
  classical
  have key : ∀ s : Finset ι, s = ∅ ∨ ∃ M : ℝ, s.fold max (⊥ : EReal) (fun k => (l k : EReal)) = (M : EReal) := by
    intro s
    induction s using Finset.induction_on with
    | empty => exact .inl rfl
    | insert k s hk ih =>
      right
      rw [Finset.fold_insert hk]
      rcases ih with rfl | ⟨M, hM⟩
      · exact ⟨l k, by simp⟩
      · exact ⟨max (l k) M, by rw [hM]; exact (EReal.coe_strictMono.monotone.map_max).symm⟩
  rcases key Finset.univ with h | h
  · exact absurd h (Finset.univ_nonempty.ne_empty)
  · exact h

/-- The shift cancels: exponentials less a common shift over their sum. -/
theorem shift_cancels {ι : Type} [Fintype ι] [Nonempty ι] (l : ι → ℝ) (M : ℝ) (i : ι) :
    Ideal.div (Ideal.exp ((l i : EReal) - (M : EReal))) (∑ k, Ideal.exp ((l k : EReal) - (M : EReal)))
      = Ideal.exp (l i : EReal) * Ideal.div 1 (∑ k, Ideal.exp (l k : EReal)) := by
  have e1 : ∀ k, Ideal.exp ((l k : EReal) - (M : EReal)) = ((Real.exp (l k) * Real.exp (-M) : ℝ) : EReal) := fun k => by
    rw [← EReal.coe_sub, Ideal.exp_coe, sub_eq_add_neg, Real.exp_add]
  have e2 : ∀ k, Ideal.exp (l k : EReal) = ((Real.exp (l k) : ℝ) : EReal) := fun k => Ideal.exp_coe _
  have hs : 0 < ∑ k, Real.exp (l k) := Finset.sum_pos (fun k _ => Real.exp_pos _) Finset.univ_nonempty
  have hM : 0 < Real.exp (-M) := Real.exp_pos _
  simp only [e1, e2]
  rw [sum_coe, sum_coe, ← Finset.sum_mul, Ideal.div_coe (mul_pos hs hM).ne', Ideal.div_coe hs.ne', one_mul, ← EReal.coe_mul, ← EReal.coe_mul]
  congr 1
  field_simp

/-- A sum over two halves laid side by side. -/
theorem sum_halves {n : ℕ} (f : Fin (n + n) → EReal) :
    (∑ k, f k) = (∑ k : Fin n, f ⟨k.val, by omega⟩) + ∑ k : Fin n, f ⟨n + k.val, by omega⟩ :=
  Fin.sum_univ_add f

end Cert.SoftmaxProof
-- ==== Proof.Algebra.lean ====
/-
The kernel's result is the reference's, at the ideal floats and for finite arguments.
-/
module

public import proofs.«01_k».proof.Proof.Reads
public import proofs.«01_k».proof.Proof.RefReads
public import proofs.«01_k».proof.Proof.Softmax

@[expose] public section

noncomputable section

namespace Cert.SoftmaxProof

open Cert.KernelIdeal Cert.KernelIdeal.Gen
open Idealize.ShloMosaic

/-- The whole weights, both halves side by side. -/
abbrev Whole : Type := FVec Ideal Cert.ReferenceIdeal.S2048x32768 .f32

/-- Column `q` of half `h`, as a column of the whole. -/
def colOf (h : Fin 2) (q : Fin 16384) : Fin 32768 := ⟨16384 * h.val + q.val, by have := h.isLt; have := q.isLt; omega⟩

/-- Row `r` of row block `k`, as a row of the whole. -/
def rowOf (k : Fin 8) (r : Fin 128) : Fin 1024 := ⟨128 * k.val + r.val, by have := k.isLt; have := r.isLt; omega⟩

/-- Half `h` of the columns of the whole weights. -/
def halfOf (W : Whole) (h : Fin 2) : Vec Ideal S2048x16384 .f32 := fun i => W (ix2 (i 0) (colOf h (i 1)))

/-- The half of the columns a device holds. -/
def side (c : Dev nD) : Fin 2 := ⟨c.val / 4, by have := c.isLt; change c.val < 8 at this; omega⟩

theorem side_peer (c : Dev nD) : side (peer c) ≠ side c := by revert c; decide

/-- The two spellings of an index from its coordinates. -/
theorem ix3_spelt {a b c : ℕ} (x : Fin a) (y : Fin b) (z : Fin c) : ValueIdx.ix3 x y z = ix3 x y z := rfl
theorem ix2_spelt {a b : ℕ} (x : Fin a) (y : Fin b) : ValueIdx.ix2 x y = ix2 x y := rfl

/-- A device's logit is the whole product's. -/
theorem lg_apply (x : Vec Ideal S1024x2048 .bf16) (W : Whole) (h : Fin 2) (k : Fin 8) (r : Fin 128) (q : Fin 16384) :
    lg x (halfOf W h) k.val (ix3 (0 : Fin 1) r q) = Ref.logits x W (ix2 (rowOf k r) (colOf h q)) := by
  have hr := r.isLt
  have hk := k.isLt
  have hq := q.isLt
  rw [Ref.logits_apply]
  show colPay (k0_pay14 (xChunk x k.val)) (wBlk (halfOf W h) (q.val / 512)) (ix3 (0 : Fin 1) r (⟨q.val % 512, _⟩ : Fin 512)) = _
  rw [colPay_apply]
  refine Finset.sum_congr rfl fun j _ => ?_
  have e1 : xChunk x k.val (ix2 r j) = x (ix2 (rowOf k r) j) := by
    unfold xChunk
    refine congrArg (fun i => x (ix2 i j)) (Fin.ext ?_)
    show (128 * k.val + r.val) % 1024 = 128 * k.val + r.val
    omega
  have e2 : wBlk (halfOf W h) (q.val / 512) (ix3 (0 : Fin 1) j (⟨q.val % 512, Nat.mod_lt _ (by decide)⟩ : Fin 512)) = W (ix2 j (colOf h q)) := by
    unfold wBlk halfOf
    refine congrArg (fun p => W (ix2 j (colOf h p))) (Fin.ext ?_)
    show (512 * (q.val / 512) + q.val % 512) % 16384 = q.val
    omega
  rw [e1, e2]

/-- A sum over a row is the sums over its two halves, in either order. -/
theorem sum_sides (f : Fin 32768 → EReal) (h h' : Fin 2) (hne : h' ≠ h) :
    (∑ q, f (colOf h q)) + (∑ q, f (colOf h' q)) = ∑ p, f p := by
  have e : (∑ p, f p) = (∑ q, f (colOf 0 q)) + ∑ q, f (colOf 1 q) := by
    have h0 : ∀ q : Fin 16384, colOf 0 q = ⟨q.val, by omega⟩ := fun q => Fin.ext (Nat.zero_add _)
    have h1 : ∀ q : Fin 16384, colOf 1 q = ⟨16384 + q.val, by omega⟩ := fun q => Fin.ext rfl
    simp only [h0, h1]
    exact sum_halves (n := 16384) f
  rw [e]
  match h, h' with
  | 0, 0 => exact absurd rfl hne
  | 0, 1 => rfl
  | 1, 0 => exact add_comm _ _
  | 1, 1 => exact absurd rfl hne

/-- The reciprocal a row's stored exponentials are multiplied by. -/
theorem recip_apply (x : Vec Ideal S1024x2048 .bf16) (W : Whole) (h h' : Fin 2) (hne : h' ≠ h) (k : Fin 8) (r : Fin 128) :
    k0_pay4 (k0_pay3 (lg x (halfOf W h) k.val)) (k0_pay3 (lg x (halfOf W h') k.val)) (ix2 r (0 : Fin 1))
      = Ideal.div 1 (∑ p, Ideal.exp (Ref.logits x W (ix2 (rowOf k r) p))) := by
  rw [pay4_apply, ← sum_sides _ h h' hne]
  simp only [pay3_apply, lg_apply]

/-- The output block of a device's own half and the block of its peer's half. -/
theorem outBlk_apply (x : Vec Ideal S1024x2048 .bf16) (W : Whole) (h h' : Fin 2) (hne : h' ≠ h) (k : Fin 8) (b : ℕ) (r : Fin 128) (q : Fin 16384) :
    outBlk x (halfOf W h) (halfOf W h') x k.val b (ix3 (0 : Fin 1) r q)
      = Ideal.exp (Ref.logits x W (ix2 (rowOf k r) (colOf (if b = 0 then h else h') q)))
        * Ideal.div 1 (∑ p, Ideal.exp (Ref.logits x W (ix2 (rowOf k r) p))) := by
  unfold outBlk
  by_cases hb : b = 0
  · rw [if_pos hb, if_pos hb]
    unfold outOwn
    rw [pay5_apply, recip_apply x W h h' hne, pay3_apply, lg_apply]
  · rw [if_neg hb, if_neg hb]
    unfold outPeer
    rw [pay6_apply, recip_apply x W h h' hne, pay3_apply, lg_apply]

/-- The kernel's result, an element: the exponential of the logit times the reciprocal of its row's sum. -/
theorem outBuf_apply (c : Dev nD) (x : Vec Ideal S1024x2048 .bf16) (W : Whole) (i : Fin 1024) (q : Fin 32768) :
    outBuf c x (halfOf W (side c)) (halfOf W (side (peer c))) x (ix2 i q)
      = Ideal.exp (Ref.logits x W (ix2 i q)) * Ideal.div 1 (∑ p, Ideal.exp (Ref.logits x W (ix2 i p))) := by
  have hi := i.isLt
  have hq := q.isLt
  have hrow : rowOf ⟨i.val / 128, by omega⟩ ⟨i.val % 128, Nat.mod_lt _ (by decide)⟩ = i := Fin.ext (by show 128 * (i.val / 128) + i.val % 128 = i.val; omega)
  have h := outBlk_apply x W (side c) (side (peer c)) (side_peer c) ⟨i.val / 128, by omega⟩ (if q.val / 16384 = c.val / 4 then 0 else 1)
    ⟨i.val % 128, Nat.mod_lt _ (by decide)⟩ ⟨q.val % 16384, Nat.mod_lt _ (by decide)⟩
  have hcol : colOf (if (if q.val / 16384 = c.val / 4 then 0 else 1) = 0 then side c else side (peer c)) ⟨q.val % 16384, Nat.mod_lt _ (by decide)⟩ = q := by
    have hc : c.val < 8 := c.isLt
    refine Fin.ext ?_
    by_cases hs : q.val / 16384 = c.val / 4
    · rw [if_pos hs, if_pos rfl]
      show 16384 * (c.val / 4) + q.val % 16384 = q.val
      omega
    · rw [if_neg hs, if_neg (by decide)]
      show 16384 * ((c.val + 4) % 8 / 4) + q.val % 16384 = q.val
      omega
  rw [hrow, hcol] at h
  exact h

/-- For finite arguments an element of the kernel's result is the reference's, -/
theorem outBuf_elem (c : Dev nD) (x : Vec Ideal S1024x2048 .bf16) (W : Whole) (hx : ∀ i, ∃ r : ℝ, x i = (r : EReal)) (hW : ∀ i, ∃ r : ℝ, W i = (r : EReal))
    (a : Fin 1024) (q : Fin 32768) :
    outBuf c x (halfOf W (side c)) (halfOf W (side (peer c))) x (ix2 a q) = Ref.refOut x W (ix2 a q) := by
  have hl : ∀ p : Fin 32768, ∃ r : ℝ, Ref.logits x W (ix2 a p) = (r : EReal) := fun p => by
    rw [Ref.logits_apply]
    exact real_dot _ _ (fun _ => hx _) (fun _ => hW _)
  choose l hl using hl
  obtain ⟨M, hM⟩ := real_max l
  have hmax : Ref.rowMax (Ref.logits x W) (ix1 a) = (M : EReal) := by
    rw [Ref.rowMax_apply, ← hM]
    simp only [hl]
  refine (outBuf_apply c x W a q).trans ?_
  rw [Ref.refOut_apply]
  simp only [Ref.exps_apply, hl, hmax]
  exact (shift_cancels l M q).symm

/-- and so the whole result. -/
theorem outBuf_eq (c : Dev nD) (x : Vec Ideal S1024x2048 .bf16) (W : Whole) (hx : ∀ i, ∃ r : ℝ, x i = (r : EReal)) (hW : ∀ i, ∃ r : ℝ, W i = (r : EReal)) :
    outBuf c x (halfOf W (side c)) (halfOf W (side (peer c))) x = Ref.refOut x W := by
  funext i
  have h := outBuf_elem c x W hx hW (i 0) (i 1)
  rwa [← eq_ix2 i] at h

end Cert.SoftmaxProof
-- ==== Proof.Agree.lean ====
/-
The precondition read as finiteness, the devices' arguments as parts of the reference's, and the value claim.
-/
module

public import proofs.«01_k».proof.Proof.Frames
public import proofs.«01_k».proof.Proof.Algebra
public import Idealize.ShloMosaic.Lib.WordArith

@[expose] public section

noncomputable section

namespace Cert.SoftmaxProof

open Idealize.ShloMosaic Idealize.ShloMosaic.TcCoe Idealize.SL.Sem

/-- The constants the precondition compares with are above every number. -/
theorem ofBits_inf_bf16 : Ideal.ofBits .bf16 0x7F80#16 = ⊤ := by
  simp [Ideal.ofBits, Ideal.ieee]

theorem ofBits_inf_f32 : Ideal.ofBits .f32 0x7F800000#32 = ⊤ := by
  simp [Ideal.ofBits, Ideal.ieee]

/-- A true comparison with the top is a number below it. -/
theorem lt_of_cmp {a b : EReal} (h : Ideal.cmp .olt a b = 1#1) : a < b := by
  have h' : BitVec.ofBool (decide (a < b)) = 1#1 := h
  rw [WordArith.ofBool_eq_one_iff] at h'
  exact of_decide_eq_true h'

/-- The precondition says that every element of both arguments is a real. -/
theorem finite_x (x : FVec Ideal Cert.Pre_finite_Kernel.S1024x2048 .bf16) (w : FVec Ideal Cert.Pre_finite_Kernel.S2048x16384 .f32)
    (h : (Cert.Pre_finite_Kernel.fn (F := Ideal) x w).1 = fun _ => 1#1) (i) : ∃ r : ℝ, x i = (r : EReal) := by
  have hi : Ideal.cmp .olt (max (x i) (-(x i))) (Ideal.ofBits .bf16 0x7F80#16) = 1#1 := congrFun h i
  rw [ofBits_inf_bf16] at hi
  exact real_of_absf_lt (lt_of_cmp hi)

theorem finite_w (x : FVec Ideal Cert.Pre_finite_Kernel.S1024x2048 .bf16) (w : FVec Ideal Cert.Pre_finite_Kernel.S2048x16384 .f32)
    (h : (Cert.Pre_finite_Kernel.fn (F := Ideal) x w).2 = fun _ => 1#1) (i) : ∃ r : ℝ, w i = (r : EReal) := by
  have hi : Ideal.cmp .olt (max (w i) (-(w i))) (Ideal.ofBits .f32 0x7F800000#32) = 1#1 := congrFun h i
  rw [ofBits_inf_f32] at hi
  exact real_of_absf_lt (lt_of_cmp hi)

/-- A device's coordinates among the blocks of the weights: the half of the columns its first mesh coordinate names. -/
theorem block_cols (c : Dev Cert.KernelIdeal.nD) : Layout.meshLin [2, 2, 2] c.val [0] = (side c).val := by
  revert c; decide

theorem block_rows (c : Dev Cert.KernelIdeal.nD) : Layout.meshLin [2, 2, 2] c.val [] = 0 := by
  revert c; decide

/-- A device's part of the weights is that half of their columns. -/
theorem block_half (c : Dev Cert.KernelIdeal.nD) (W : Whole) :
    Layout.blockN ⟨2, ![2048, 16384]⟩ ⟨2, ![2048, 32768]⟩ (Layout.meshBlock [2, 2, 2] ![[], [0]] c) W = halfOf W (side c) := by
  funext i
  rw [Layout.blockN_apply]
  unfold halfOf
  refine congrArg W ?_
  funext b
  refine Fin.ext ?_
  rw [Layout.TilesN.idx_val]
  match b with
  | ⟨0, _⟩ =>
    show Layout.meshLin [2, 2, 2] c.val [] * 2048 + (i 0).val = (i 0).val
    rw [block_rows]; omega
  | ⟨1, _⟩ =>
    show Layout.meshLin [2, 2, 2] c.val [0] * 16384 + (i 1).val = 16384 * (side c).val + (i 1).val
    rw [block_cols]; omega

/-- Every element of the whole weights is in some device's half. -/
theorem finite_whole (W : Whole) (h : ∀ (c : Dev Cert.KernelIdeal.nD) i, ∃ r : ℝ, halfOf W (side c) i = (r : EReal)) (i) : ∃ r : ℝ, W i = (r : EReal) := by
  have key : ∀ (a : Fin 2048) (q : Fin 32768), ∃ r : ℝ, W (ix2 a q) = (r : EReal) := by
    intro a q
    have hq := q.isLt
    obtain ⟨c, hc⟩ : ∃ c : Dev Cert.KernelIdeal.nD, (side c).val = q.val / 16384 :=
      ⟨⟨4 * (q.val / 16384), by show _ < 8; omega⟩, by show 4 * (q.val / 16384) / 4 = q.val / 16384; omega⟩
    have e : colOf (side c) ⟨q.val % 16384, Nat.mod_lt _ (by decide)⟩ = q := Fin.ext (by
      show 16384 * (side c).val + q.val % 16384 = q.val
      rw [hc]; omega)
    have := h c (ix2 a ⟨q.val % 16384, Nat.mod_lt _ (by decide)⟩)
    unfold halfOf at this
    rw [ix2_0, ix2_1, e] at this
    exact this
  have := key (i 0) (i 1)
  rwa [← eq_ix2 i] at this

/-- The value claim: every device's result is the reference's. -/
theorem algebraic : Cert.algebraic_KernelIdeal_ReferenceIdeal := by
  intro m g m' g' hpre hagree
  have hx := fun i => finite_x _ _ (hpre 0).1 i
  have hw := fun (c : Dev Cert.KernelIdeal.nD) i => finite_w _ _ (hpre c).2 i
  generalize hX : m' (((0 : Dev Cert.ReferenceIdeal.nD).tc : Thread Cert.ReferenceIdeal.nD Cert.ReferenceIdeal.τ).loc Cert.ReferenceIdeal.main_arg0) = X at hagree
  generalize hW : m' (((0 : Dev Cert.ReferenceIdeal.nD).tc : Thread Cert.ReferenceIdeal.nD Cert.ReferenceIdeal.τ).loc Cert.ReferenceIdeal.main_arg1) = W at hagree
  have eX : ∀ c, xOf m c = X := fun c => (hagree c).1
  have eW : ∀ c, wOf m c = halfOf W (side c) := fun c => ((hagree c).2).trans (block_half c W)
  have fX : ∀ i, ∃ r : ℝ, X i = (r : EReal) := fun i => by rw [← eX 0]; exact hx i
  have fW : ∀ i, ∃ r : ℝ, W i = (r : EReal) := finite_whole W fun c i => by rw [← eW c]; exact hw c i
  refine ⟨Ref.refOut (F := Ideal) X W, ?_, ?_⟩
  · refine (θ_run Cert.KernelIdeal.defs _ _).mono (fun _ h c => ⟨((h.1 c).2).trans ?_, (h.1 c).1.1, (h.1 c).1.2⟩) (run_main (F := Ideal) m g)
    unfold res
    rw [eX c, eX (peer c), eW c, eW (peer c)]
    exact outBuf_eq c X W fX fW
  · subst hX hW
    exact (θ_run Cert.ReferenceIdeal.defs _ _).mono (fun _ h => h 0) (Ref.run_main (F := Ideal) m' g')

end Cert.SoftmaxProof
-- ==== Proof.lean ====
/-
The proof of the certificate's claims, put together from the modules that prove each.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Agree

@[expose] public section

/-- Every claim of the certificate. -/
theorem Cert.Proof.claim : Cert.Claim :=
  ⟨Cert.Kernel.Gen.facts, Cert.KernelIdeal.Gen.facts, Cert.ReferenceIdeal.Gen.facts, Cert.SoftmaxProof.preK, Cert.SoftmaxProof.preR,
    Cert.SoftmaxProof.frame_kernel, Cert.SoftmaxProof.frame_kernelIdeal, Cert.SoftmaxProof.frame_reference,
    Cert.SoftmaxProof.frame_reference_pre, Cert.SoftmaxProof.preserves, Cert.SoftmaxProof.algebraic⟩
